-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonzero_step [hPre_nonzero_step : Cert.Pre_nonzero_step.Facts] (m : (ℓ : Loc Cert.KernelIdeal.nD Cert.KernelIdeal.τ Cert.KernelIdeal.sig) → Buf (Elt Ideal) ℓ) : Prop :=
  ∀ c : Dev Cert.KernelIdeal.nD,
    (Cert.Pre_nonzero_step.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonzero_step [hPre_nonzero_step : Cert.Pre_nonzero_step.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonzero_step.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Products (m : (ℓ : Loc Cert.Products.nD Cert.Products.τ Cert.Products.sig) → Buf (Elt Bits) ℓ) : Prop :=
  True

def Pre_ProductsIdeal (m : (ℓ : Loc Cert.ProductsIdeal.nD Cert.ProductsIdeal.τ Cert.ProductsIdeal.sig) → Buf (Elt Ideal) ℓ) : Prop :=
  True

def Pre_GradientsIdeal (m : (ℓ : Loc Cert.GradientsIdeal.nD Cert.GradientsIdeal.τ Cert.GradientsIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_nonzero_step [hKernelIdeal : Cert.KernelIdeal.Facts] [hPre_nonzero_step : Cert.Pre_nonzero_step.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonzero_step m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nonzero_step [hReferenceIdeal : Cert.ReferenceIdeal.Facts] [hPre_nonzero_step : Cert.Pre_nonzero_step.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonzero_step m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Products [hProducts : Cert.Products.Facts] : Prop :=
  ∀ (m : (ℓ : Loc Cert.Products.nD Cert.Products.τ Cert.Products.sig) → Buf (Elt Bits) ℓ) (g : Dev Cert.Products.nD → PrngReg), Pre_Products m →
    θ_run (Cert.Products.defs (F := Bits)) (onTc (τ := Cert.Products.τ) (Cert.Products.main (F := Bits))) ⟨m, fun _ => 0, g⟩ (fun r => (∀ c : Dev Cert.Products.nD,
      r.2.mem ((c.tc : Thread Cert.Products.nD Cert.Products.τ).loc Cert.Products.main_arg0) = m ((c.tc : Thread Cert.Products.nD Cert.Products.τ).loc Cert.Products.main_arg0)
      ∧ r.2.mem ((c.tc : Thread Cert.Products.nD Cert.Products.τ).loc Cert.Products.main_arg1) = m ((c.tc : Thread Cert.Products.nD Cert.Products.τ).loc Cert.Products.main_arg1)
      ∧ r.2.mem ((c.tc : Thread Cert.Products.nD Cert.Products.τ).loc Cert.Products.main_arg2) = m ((c.tc : Thread Cert.Products.nD Cert.Products.τ).loc Cert.Products.main_arg2)
      ∧ r.2.mem ((c.tc : Thread Cert.Products.nD Cert.Products.τ).loc Cert.Products.main_arg3) = m ((c.tc : Thread Cert.Products.nD Cert.Products.τ).loc Cert.Products.main_arg3)
      ∧ r.2.mem ((c.tc : Thread Cert.Products.nD Cert.Products.τ).loc Cert.Products.main_arg4) = m ((c.tc : Thread Cert.Products.nD Cert.Products.τ).loc Cert.Products.main_arg4)
      ∧ r.2.mem ((c.tc : Thread Cert.Products.nD Cert.Products.τ).loc Cert.Products.main_arg5) = m ((c.tc : Thread Cert.Products.nD Cert.Products.τ).loc Cert.Products.main_arg5)
      ∧ r.2.mem ((c.tc : Thread Cert.Products.nD Cert.Products.τ).loc Cert.Products.main_arg6) = m ((c.tc : Thread Cert.Products.nD Cert.Products.τ).loc Cert.Products.main_arg6)
      ∧ r.2.mem ((c.tc : Thread Cert.Products.nD Cert.Products.τ).loc Cert.Products.main_arg7) = m ((c.tc : Thread Cert.Products.nD Cert.Products.τ).loc Cert.Products.main_arg7)
      ∧ r.2.mem ((c.tc : Thread Cert.Products.nD Cert.Products.τ).loc Cert.Products.main_arg8) = m ((c.tc : Thread Cert.Products.nD Cert.Products.τ).loc Cert.Products.main_arg8))
      ∧ r.2.sem = fun _ => 0)

def quiescent_ProductsIdeal [hProductsIdeal : Cert.ProductsIdeal.Facts] : Prop :=
  ∀ (m : (ℓ : Loc Cert.ProductsIdeal.nD Cert.ProductsIdeal.τ Cert.ProductsIdeal.sig) → Buf (Elt Ideal) ℓ) (g : Dev Cert.ProductsIdeal.nD → PrngReg), Pre_ProductsIdeal m →
    θ_run (Cert.ProductsIdeal.defs (F := Ideal)) (onTc (τ := Cert.ProductsIdeal.τ) (Cert.ProductsIdeal.main (F := Ideal))) ⟨m, fun _ => 0, g⟩ (fun r => (∀ c : Dev Cert.ProductsIdeal.nD,
      r.2.mem ((c.tc : Thread Cert.ProductsIdeal.nD Cert.ProductsIdeal.τ).loc Cert.ProductsIdeal.main_arg0) = m ((c.tc : Thread Cert.ProductsIdeal.nD Cert.ProductsIdeal.τ).loc Cert.ProductsIdeal.main_arg0)
      ∧ r.2.mem ((c.tc : Thread Cert.ProductsIdeal.nD Cert.ProductsIdeal.τ).loc Cert.ProductsIdeal.main_arg1) = m ((c.tc : Thread Cert.ProductsIdeal.nD Cert.ProductsIdeal.τ).loc Cert.ProductsIdeal.main_arg1)
      ∧ r.2.mem ((c.tc : Thread Cert.ProductsIdeal.nD Cert.ProductsIdeal.τ).loc Cert.ProductsIdeal.main_arg2) = m ((c.tc : Thread Cert.ProductsIdeal.nD Cert.ProductsIdeal.τ).loc Cert.ProductsIdeal.main_arg2)
      ∧ r.2.mem ((c.tc : Thread Cert.ProductsIdeal.nD Cert.ProductsIdeal.τ).loc Cert.ProductsIdeal.main_arg3) = m ((c.tc : Thread Cert.ProductsIdeal.nD Cert.ProductsIdeal.τ).loc Cert.ProductsIdeal.main_arg3)
      ∧ r.2.mem ((c.tc : Thread Cert.ProductsIdeal.nD Cert.ProductsIdeal.τ).loc Cert.ProductsIdeal.main_arg4) = m ((c.tc : Thread Cert.ProductsIdeal.nD Cert.ProductsIdeal.τ).loc Cert.ProductsIdeal.main_arg4)
      ∧ r.2.mem ((c.tc : Thread Cert.ProductsIdeal.nD Cert.ProductsIdeal.τ).loc Cert.ProductsIdeal.main_arg5) = m ((c.tc : Thread Cert.ProductsIdeal.nD Cert.ProductsIdeal.τ).loc Cert.ProductsIdeal.main_arg5)
      ∧ r.2.mem ((c.tc : Thread Cert.ProductsIdeal.nD Cert.ProductsIdeal.τ).loc Cert.ProductsIdeal.main_arg6) = m ((c.tc : Thread Cert.ProductsIdeal.nD Cert.ProductsIdeal.τ).loc Cert.ProductsIdeal.main_arg6)
      ∧ r.2.mem ((c.tc : Thread Cert.ProductsIdeal.nD Cert.ProductsIdeal.τ).loc Cert.ProductsIdeal.main_arg7) = m ((c.tc : Thread Cert.ProductsIdeal.nD Cert.ProductsIdeal.τ).loc Cert.ProductsIdeal.main_arg7)
      ∧ r.2.mem ((c.tc : Thread Cert.ProductsIdeal.nD Cert.ProductsIdeal.τ).loc Cert.ProductsIdeal.main_arg8) = m ((c.tc : Thread Cert.ProductsIdeal.nD Cert.ProductsIdeal.τ).loc Cert.ProductsIdeal.main_arg8))
      ∧ r.2.sem = fun _ => 0)

def quiescent_GradientsIdeal [hGradientsIdeal : Cert.GradientsIdeal.Facts] : Prop :=
  ∀ (m : (ℓ : Loc Cert.GradientsIdeal.nD Cert.GradientsIdeal.τ Cert.GradientsIdeal.sig) → Buf (Elt Ideal) ℓ) (g : Dev Cert.GradientsIdeal.nD → PrngReg), Pre_GradientsIdeal m →
    θ_run (Cert.GradientsIdeal.defs (F := Ideal)) (onTc (τ := Cert.GradientsIdeal.τ) (Cert.GradientsIdeal.main (F := Ideal))) ⟨m, fun _ => 0, g⟩ (fun r => (∀ c : Dev Cert.GradientsIdeal.nD,
      r.2.mem ((c.tc : Thread Cert.GradientsIdeal.nD Cert.GradientsIdeal.τ).loc Cert.GradientsIdeal.main_arg0) = m ((c.tc : Thread Cert.GradientsIdeal.nD Cert.GradientsIdeal.τ).loc Cert.GradientsIdeal.main_arg0)
      ∧ r.2.mem ((c.tc : Thread Cert.GradientsIdeal.nD Cert.GradientsIdeal.τ).loc Cert.GradientsIdeal.main_arg1) = m ((c.tc : Thread Cert.GradientsIdeal.nD Cert.GradientsIdeal.τ).loc Cert.GradientsIdeal.main_arg1)
      ∧ r.2.mem ((c.tc : Thread Cert.GradientsIdeal.nD Cert.GradientsIdeal.τ).loc Cert.GradientsIdeal.main_arg2) = m ((c.tc : Thread Cert.GradientsIdeal.nD Cert.GradientsIdeal.τ).loc Cert.GradientsIdeal.main_arg2)
      ∧ r.2.mem ((c.tc : Thread Cert.GradientsIdeal.nD Cert.GradientsIdeal.τ).loc Cert.GradientsIdeal.main_arg3) = m ((c.tc : Thread Cert.GradientsIdeal.nD Cert.GradientsIdeal.τ).loc Cert.GradientsIdeal.main_arg3)
      ∧ r.2.mem ((c.tc : Thread Cert.GradientsIdeal.nD Cert.GradientsIdeal.τ).loc Cert.GradientsIdeal.main_arg4) = m ((c.tc : Thread Cert.GradientsIdeal.nD Cert.GradientsIdeal.τ).loc Cert.GradientsIdeal.main_arg4)
      ∧ r.2.mem ((c.tc : Thread Cert.GradientsIdeal.nD Cert.GradientsIdeal.τ).loc Cert.GradientsIdeal.main_arg5) = m ((c.tc : Thread Cert.GradientsIdeal.nD Cert.GradientsIdeal.τ).loc Cert.GradientsIdeal.main_arg5)
      ∧ r.2.mem ((c.tc : Thread Cert.GradientsIdeal.nD Cert.GradientsIdeal.τ).loc Cert.GradientsIdeal.main_arg6) = m ((c.tc : Thread Cert.GradientsIdeal.nD Cert.GradientsIdeal.τ).loc Cert.GradientsIdeal.main_arg6)
      ∧ r.2.mem ((c.tc : Thread Cert.GradientsIdeal.nD Cert.GradientsIdeal.τ).loc Cert.GradientsIdeal.main_arg7) = m ((c.tc : Thread Cert.GradientsIdeal.nD Cert.GradientsIdeal.τ).loc Cert.GradientsIdeal.main_arg7)
      ∧ r.2.mem ((c.tc : Thread Cert.GradientsIdeal.nD Cert.GradientsIdeal.τ).loc Cert.GradientsIdeal.main_arg8) = m ((c.tc : Thread Cert.GradientsIdeal.nD Cert.GradientsIdeal.τ).loc Cert.GradientsIdeal.main_arg8))
      ∧ r.2.sem = fun _ => 0)

def preserves_Kernel_KernelIdeal : Prop :=
  True

def algebraic_KernelIdeal_ReferenceIdeal_pre_nonzero_step [hKernelIdeal : Cert.KernelIdeal.Facts] [hReferenceIdeal : Cert.ReferenceIdeal.Facts] [hPre_nonzero_step : Cert.Pre_nonzero_step.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonzero_step m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Products_ProductsIdeal : Prop :=
  True

def algebraic_ProductsIdeal_GradientsIdeal [hProductsIdeal : Cert.ProductsIdeal.Facts] [hGradientsIdeal : Cert.GradientsIdeal.Facts] : Prop :=
  ∀ (m : (ℓ : Loc Cert.ProductsIdeal.nD Cert.ProductsIdeal.τ Cert.ProductsIdeal.sig) → Buf (Elt Ideal) ℓ) (g : Dev Cert.ProductsIdeal.nD → PrngReg)
    (m' : (ℓ : Loc Cert.GradientsIdeal.nD Cert.GradientsIdeal.τ Cert.GradientsIdeal.sig) → Buf (Elt Ideal) ℓ) (g' : Dev Cert.GradientsIdeal.nD → PrngReg), Pre_ProductsIdeal m →
    (∀ c : Dev Cert.ProductsIdeal.nD,
      m' ((c.tc : Thread Cert.GradientsIdeal.nD Cert.GradientsIdeal.τ).loc Cert.GradientsIdeal.main_arg0) = m ((c.tc : Thread Cert.ProductsIdeal.nD Cert.ProductsIdeal.τ).loc Cert.ProductsIdeal.main_arg0)
      ∧ m' ((c.tc : Thread Cert.GradientsIdeal.nD Cert.GradientsIdeal.τ).loc Cert.GradientsIdeal.main_arg1) = m ((c.tc : Thread Cert.ProductsIdeal.nD Cert.ProductsIdeal.τ).loc Cert.ProductsIdeal.main_arg1)
      ∧ m' ((c.tc : Thread Cert.GradientsIdeal.nD Cert.GradientsIdeal.τ).loc Cert.GradientsIdeal.main_arg2) = m ((c.tc : Thread Cert.ProductsIdeal.nD Cert.ProductsIdeal.τ).loc Cert.ProductsIdeal.main_arg2)
      ∧ m' ((c.tc : Thread Cert.GradientsIdeal.nD Cert.GradientsIdeal.τ).loc Cert.GradientsIdeal.main_arg3) = m ((c.tc : Thread Cert.ProductsIdeal.nD Cert.ProductsIdeal.τ).loc Cert.ProductsIdeal.main_arg3)
      ∧ m' ((c.tc : Thread Cert.GradientsIdeal.nD Cert.GradientsIdeal.τ).loc Cert.GradientsIdeal.main_arg4) = m ((c.tc : Thread Cert.ProductsIdeal.nD Cert.ProductsIdeal.τ).loc Cert.ProductsIdeal.main_arg4)
      ∧ m' ((c.tc : Thread Cert.GradientsIdeal.nD Cert.GradientsIdeal.τ).loc Cert.GradientsIdeal.main_arg5) = m ((c.tc : Thread Cert.ProductsIdeal.nD Cert.ProductsIdeal.τ).loc Cert.ProductsIdeal.main_arg5)
      ∧ m' ((c.tc : Thread Cert.GradientsIdeal.nD Cert.GradientsIdeal.τ).loc Cert.GradientsIdeal.main_arg6) = m ((c.tc : Thread Cert.ProductsIdeal.nD Cert.ProductsIdeal.τ).loc Cert.ProductsIdeal.main_arg6)
      ∧ m' ((c.tc : Thread Cert.GradientsIdeal.nD Cert.GradientsIdeal.τ).loc Cert.GradientsIdeal.main_arg7) = m ((c.tc : Thread Cert.ProductsIdeal.nD Cert.ProductsIdeal.τ).loc Cert.ProductsIdeal.main_arg7)
      ∧ m' ((c.tc : Thread Cert.GradientsIdeal.nD Cert.GradientsIdeal.τ).loc Cert.GradientsIdeal.main_arg8) = m ((c.tc : Thread Cert.ProductsIdeal.nD Cert.ProductsIdeal.τ).loc Cert.ProductsIdeal.main_arg8)) →
    ∃ (v0 : (c : Dev Cert.ProductsIdeal.nD) → Buf (Elt Ideal) ((c.tc : Thread Cert.ProductsIdeal.nD Cert.ProductsIdeal.τ).loc Cert.ProductsIdeal.main_v0_0)) (v1 : (c : Dev Cert.ProductsIdeal.nD) → Buf (Elt Ideal) ((c.tc : Thread Cert.ProductsIdeal.nD Cert.ProductsIdeal.τ).loc Cert.ProductsIdeal.main_v0_1)) (v2 : (c : Dev Cert.ProductsIdeal.nD) → Buf (Elt Ideal) ((c.tc : Thread Cert.ProductsIdeal.nD Cert.ProductsIdeal.τ).loc Cert.ProductsIdeal.main_v0_2)),
      θ_run (Cert.ProductsIdeal.defs (F := Ideal)) (onTc (τ := Cert.ProductsIdeal.τ) (Cert.ProductsIdeal.main (F := Ideal))) ⟨m, fun _ => 0, g⟩ (fun r => ∀ c : Dev Cert.ProductsIdeal.nD,
          r.2.mem ((c.tc : Thread Cert.ProductsIdeal.nD Cert.ProductsIdeal.τ).loc Cert.ProductsIdeal.main_v0_0) = v0 c
          ∧ r.2.mem ((c.tc : Thread Cert.ProductsIdeal.nD Cert.ProductsIdeal.τ).loc Cert.ProductsIdeal.main_v0_1) = v1 c
          ∧ r.2.mem ((c.tc : Thread Cert.ProductsIdeal.nD Cert.ProductsIdeal.τ).loc Cert.ProductsIdeal.main_v0_2) = v2 c
          ∧ r.2.mem ((c.tc : Thread Cert.ProductsIdeal.nD Cert.ProductsIdeal.τ).loc Cert.ProductsIdeal.main_arg0) = m ((c.tc : Thread Cert.ProductsIdeal.nD Cert.ProductsIdeal.τ).loc Cert.ProductsIdeal.main_arg0)
          ∧ r.2.mem ((c.tc : Thread Cert.ProductsIdeal.nD Cert.ProductsIdeal.τ).loc Cert.ProductsIdeal.main_arg1) = m ((c.tc : Thread Cert.ProductsIdeal.nD Cert.ProductsIdeal.τ).loc Cert.ProductsIdeal.main_arg1)
          ∧ r.2.mem ((c.tc : Thread Cert.ProductsIdeal.nD Cert.ProductsIdeal.τ).loc Cert.ProductsIdeal.main_arg2) = m ((c.tc : Thread Cert.ProductsIdeal.nD Cert.ProductsIdeal.τ).loc Cert.ProductsIdeal.main_arg2)
          ∧ r.2.mem ((c.tc : Thread Cert.ProductsIdeal.nD Cert.ProductsIdeal.τ).loc Cert.ProductsIdeal.main_arg3) = m ((c.tc : Thread Cert.ProductsIdeal.nD Cert.ProductsIdeal.τ).loc Cert.ProductsIdeal.main_arg3)
          ∧ r.2.mem ((c.tc : Thread Cert.ProductsIdeal.nD Cert.ProductsIdeal.τ).loc Cert.ProductsIdeal.main_arg4) = m ((c.tc : Thread Cert.ProductsIdeal.nD Cert.ProductsIdeal.τ).loc Cert.ProductsIdeal.main_arg4)
          ∧ r.2.mem ((c.tc : Thread Cert.ProductsIdeal.nD Cert.ProductsIdeal.τ).loc Cert.ProductsIdeal.main_arg5) = m ((c.tc : Thread Cert.ProductsIdeal.nD Cert.ProductsIdeal.τ).loc Cert.ProductsIdeal.main_arg5)
          ∧ r.2.mem ((c.tc : Thread Cert.ProductsIdeal.nD Cert.ProductsIdeal.τ).loc Cert.ProductsIdeal.main_arg6) = m ((c.tc : Thread Cert.ProductsIdeal.nD Cert.ProductsIdeal.τ).loc Cert.ProductsIdeal.main_arg6)
          ∧ r.2.mem ((c.tc : Thread Cert.ProductsIdeal.nD Cert.ProductsIdeal.τ).loc Cert.ProductsIdeal.main_arg7) = m ((c.tc : Thread Cert.ProductsIdeal.nD Cert.ProductsIdeal.τ).loc Cert.ProductsIdeal.main_arg7)
          ∧ r.2.mem ((c.tc : Thread Cert.ProductsIdeal.nD Cert.ProductsIdeal.τ).loc Cert.ProductsIdeal.main_arg8) = m ((c.tc : Thread Cert.ProductsIdeal.nD Cert.ProductsIdeal.τ).loc Cert.ProductsIdeal.main_arg8))
      ∧ θ_run (Cert.GradientsIdeal.defs (F := Ideal)) (onTc (τ := Cert.GradientsIdeal.τ) (Cert.GradientsIdeal.main (F := Ideal))) ⟨m', fun _ => 0, g'⟩ (fun r => ∀ c : Dev Cert.GradientsIdeal.nD,
          r.2.mem ((c.tc : Thread Cert.GradientsIdeal.nD Cert.GradientsIdeal.τ).loc Cert.GradientsIdeal.main_v0_0) = v0 c
          ∧ r.2.mem ((c.tc : Thread Cert.GradientsIdeal.nD Cert.GradientsIdeal.τ).loc Cert.GradientsIdeal.main_v0_1) = v1 c
          ∧ r.2.mem ((c.tc : Thread Cert.GradientsIdeal.nD Cert.GradientsIdeal.τ).loc Cert.GradientsIdeal.main_v0_2) = v2 c
          ∧ r.2.mem ((c.tc : Thread Cert.GradientsIdeal.nD Cert.GradientsIdeal.τ).loc Cert.GradientsIdeal.main_arg0) = m' ((c.tc : Thread Cert.GradientsIdeal.nD Cert.GradientsIdeal.τ).loc Cert.GradientsIdeal.main_arg0)
          ∧ r.2.mem ((c.tc : Thread Cert.GradientsIdeal.nD Cert.GradientsIdeal.τ).loc Cert.GradientsIdeal.main_arg1) = m' ((c.tc : Thread Cert.GradientsIdeal.nD Cert.GradientsIdeal.τ).loc Cert.GradientsIdeal.main_arg1)
          ∧ r.2.mem ((c.tc : Thread Cert.GradientsIdeal.nD Cert.GradientsIdeal.τ).loc Cert.GradientsIdeal.main_arg2) = m' ((c.tc : Thread Cert.GradientsIdeal.nD Cert.GradientsIdeal.τ).loc Cert.GradientsIdeal.main_arg2)
          ∧ r.2.mem ((c.tc : Thread Cert.GradientsIdeal.nD Cert.GradientsIdeal.τ).loc Cert.GradientsIdeal.main_arg3) = m' ((c.tc : Thread Cert.GradientsIdeal.nD Cert.GradientsIdeal.τ).loc Cert.GradientsIdeal.main_arg3)
          ∧ r.2.mem ((c.tc : Thread Cert.GradientsIdeal.nD Cert.GradientsIdeal.τ).loc Cert.GradientsIdeal.main_arg4) = m' ((c.tc : Thread Cert.GradientsIdeal.nD Cert.GradientsIdeal.τ).loc Cert.GradientsIdeal.main_arg4)
          ∧ r.2.mem ((c.tc : Thread Cert.GradientsIdeal.nD Cert.GradientsIdeal.τ).loc Cert.GradientsIdeal.main_arg5) = m' ((c.tc : Thread Cert.GradientsIdeal.nD Cert.GradientsIdeal.τ).loc Cert.GradientsIdeal.main_arg5)
          ∧ r.2.mem ((c.tc : Thread Cert.GradientsIdeal.nD Cert.GradientsIdeal.τ).loc Cert.GradientsIdeal.main_arg6) = m' ((c.tc : Thread Cert.GradientsIdeal.nD Cert.GradientsIdeal.τ).loc Cert.GradientsIdeal.main_arg6)
          ∧ r.2.mem ((c.tc : Thread Cert.GradientsIdeal.nD Cert.GradientsIdeal.τ).loc Cert.GradientsIdeal.main_arg7) = m' ((c.tc : Thread Cert.GradientsIdeal.nD Cert.GradientsIdeal.τ).loc Cert.GradientsIdeal.main_arg7)
          ∧ r.2.mem ((c.tc : Thread Cert.GradientsIdeal.nD Cert.GradientsIdeal.τ).loc Cert.GradientsIdeal.main_arg8) = m' ((c.tc : Thread Cert.GradientsIdeal.nD Cert.GradientsIdeal.τ).loc Cert.GradientsIdeal.main_arg8))

def Claim : Prop :=
  ∃ (hKernel : Cert.Kernel.Facts) (hKernelIdeal : Cert.KernelIdeal.Facts) (hReferenceIdeal : Cert.ReferenceIdeal.Facts) (hProducts : Cert.Products.Facts) (hProductsIdeal : Cert.ProductsIdeal.Facts) (hGradientsIdeal : Cert.GradientsIdeal.Facts) (hPre_nonzero_step : Cert.Pre_nonzero_step.Facts),
    quiescent_Kernel (hKernel := hKernel)
    ∧ quiescent_KernelIdeal (hKernelIdeal := hKernelIdeal)
    ∧ quiescent_KernelIdeal_pre_nonzero_step (hKernelIdeal := hKernelIdeal) (hPre_nonzero_step := hPre_nonzero_step)
    ∧ quiescent_ReferenceIdeal (hReferenceIdeal := hReferenceIdeal)
    ∧ quiescent_ReferenceIdeal_pre_nonzero_step (hReferenceIdeal := hReferenceIdeal) (hPre_nonzero_step := hPre_nonzero_step)
    ∧ quiescent_Products (hProducts := hProducts)
    ∧ quiescent_ProductsIdeal (hProductsIdeal := hProductsIdeal)
    ∧ quiescent_GradientsIdeal (hGradientsIdeal := hGradientsIdeal)
    ∧ preserves_Kernel_KernelIdeal
    ∧ algebraic_KernelIdeal_ReferenceIdeal_pre_nonzero_step (hKernelIdeal := hKernelIdeal) (hReferenceIdeal := hReferenceIdeal) (hPre_nonzero_step := hPre_nonzero_step)
    ∧ preserves_Products_ProductsIdeal
    ∧ algebraic_ProductsIdeal_GradientsIdeal (hProductsIdeal := hProductsIdeal) (hGradientsIdeal := hGradientsIdeal)
-- ==== Pre_nonzero_step.lean ====
abbrev S2048x5632 : Shape := ⟨2, ![2048, 5632]⟩
abbrev S16x5632 : Shape := ⟨2, ![16, 5632]⟩
abbrev S16x128x5632 : Shape := ⟨3, ![16, 128, 5632]⟩
abbrev S_ : Shape := ⟨0, ![]⟩

class Facts : Prop where
  shapeCasts_S2048x5632_S16x128x5632 : S2048x5632.ShapeCasts S16x128x5632
  bcast_S_S16x5632 : S_.BroadcastsInDim S16x5632 (![] : Fin 0 → Fin S16x5632.rank)
  reducesTo_S16x128x5632_S16x5632_d1 : S16x128x5632.ReducesTo [1] S16x5632
  h_S_ : 0 < S_.numel

variable [Facts]

def fn_part1 {F : FTy → Type} [FloatOps F] (main_v17 : FVec F S16x5632 .f32) : IVec S16x5632 1 :=
  let main_cst_5 : FVec F S_ .f32 := constant S_ .f32 0x41700000#32
  let main_v18 : FVec F S16x5632 .f32 := broadcastInDim S16x5632 ![] bcast_S_S16x5632 main_cst_5
  let main_v19 : FVec F S16x5632 .f32 := Host.divf main_v17 main_v18
  let main_cst_6 : FVec F S_ .f32 := constant S_ .f32 0x00000000#32
  let main_v20 : FVec F S16x5632 .f32 := broadcastInDim S16x5632 ![] bcast_S_S16x5632 main_cst_6
  let main_v21 : IVec S16x5632 1 := cmpf .une main_v19 main_v20
  main_v21

def fn {F : FTy → Type} [FloatOps F] (main_arg0 : FVec F S2048x5632 .f32) (main_arg1 : FVec F S16x5632 .f32) (main_arg2 : FVec F S16x5632 .f32) : IVec S16x5632 1 :=
  let main_v0 : FVec F S16x128x5632 .f32 := shapeCast S16x128x5632 main_arg0 shapeCasts_S2048x5632_S16x128x5632
  let main_v1 : FVec F S16x5632 .f32 := Host.negf main_arg1
  let main_v2 : FVec F S16x5632 .f32 := Host.exp main_v1
  let main_cst : FVec F S_ .f32 := constant S_ .f32 0x3F800000#32
  let main_v3 : FVec F S16x5632 .f32 := broadcastInDim S16x5632 ![] bcast_S_S16x5632 main_cst
  let main_v4 : FVec F S16x5632 .f32 := addf main_v3 main_v2
  let main_cst_0 : FVec F S_ .f32 := constant S_ .f32 0x3F800000#32
  let main_v5 : FVec F S16x5632 .f32 := broadcastInDim S16x5632 ![] bcast_S_S16x5632 main_cst_0
  let main_v6 : FVec F S16x5632 .f32 := Host.divf main_v5 main_v4
  let main_cst_1 : FVec F S_ .f32 := constant S_ .f32 0xFF800000#32
  let main_v7 : FVec F S16x5632 .f32 := (fun x v => Host.reduce FloatOps.maximumf x v reducesTo_S16x128x5632_S16x5632_d1 h_S_) main_v0 main_cst_1
  let main_v8 : FVec F S16x5632 .f32 := mulf main_v6 main_v7
  let main_v9 : FVec F S16x5632 .f32 := Host.negf main_arg2
  let main_v10 : FVec F S16x5632 .f32 := Host.exp main_v9
  let main_cst_2 : FVec F S_ .f32 := constant S_ .f32 0x3F800000#32
  let main_v11 : FVec F S16x5632 .f32 := broadcastInDim S16x5632 ![] bcast_S_S16x5632 main_cst_2
  let main_v12 : FVec F S16x5632 .f32 := addf main_v11 main_v10
  let main_cst_3 : FVec F S_ .f32 := constant S_ .f32 0x3F800000#32
  let main_v13 : FVec F S16x5632 .f32 := broadcastInDim S16x5632 ![] bcast_S_S16x5632 main_cst_3
  let main_v14 : FVec F S16x5632 .f32 := Host.divf main_v13 main_v12
  let main_cst_4 : FVec F S_ .f32 := constant S_ .f32 0x7F800000#32
  let main_v15 : FVec F S16x5632 .f32 := (fun x v => Host.reduce FloatOps.minimumf x v reducesTo_S16x128x5632_S16x5632_d1 h_S_) main_v0 main_cst_4
  let main_v16 : FVec F S16x5632 .f32 := mulf main_v14 main_v15
  let main_v17 : FVec F S16x5632 .f32 := subf main_v8 main_v16
  fn_part1 (F := F) main_v17
-- ==== Kernel.lean ====
abbrev S2048x5632 : Shape := ⟨2, ![2048, 5632]⟩
abbrev S16x5632 : Shape := ⟨2, ![16, 5632]⟩
abbrev S2048x512 : Shape := ⟨2, ![2048, 512]⟩
abbrev S16x512 : Shape := ⟨2, ![16, 512]⟩
abbrev S3x4x136x128 : Shape := ⟨4, ![3, 4, 136, 128]⟩
abbrev S8x128 : Shape := ⟨2, ![8, 128]⟩
abbrev S1x1x136x128 : Shape := ⟨4, ![1, 1, 136, 128]⟩
abbrev S136x128 : Shape := ⟨2, ![136, 128]⟩
abbrev S1x128 : Shape := ⟨2, ![1, 128]⟩
abbrev S32x128 : Shape := ⟨2, ![32, 128]⟩

abbrev nBuf : Space → Nat
  | .hbm => 6
  | .vmem => 21
  | .smem => 0
  | _ => 0

abbrev bufTy : (tb : Table) → Fin (tcTables nBuf tb) → BufTy
  | .hbm, ⟨0, _⟩ => ⟨S2048x5632, .f32⟩
  | .hbm, ⟨1, _⟩ => ⟨S16x5632, .f32⟩
  | .hbm, ⟨2, _⟩ => ⟨S16x5632, .f32⟩
  | .hbm, ⟨3, _⟩ => ⟨S2048x5632, .i8⟩
  | .hbm, ⟨4, _⟩ => ⟨S16x5632, .f32⟩
  | .hbm, ⟨5, _⟩ => ⟨S16x5632, .f32⟩
  | .local _ .vmem, ⟨0, _⟩ => ⟨S2048x512, .f32⟩
  | .local _ .vmem, ⟨1, _⟩ => ⟨S2048x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S2048x512, .i8⟩
  | .local _ .vmem, ⟨7, _⟩ => ⟨S2048x512, .i8⟩
  | .local _ .vmem, ⟨8, _⟩ => ⟨S16x512, .f32⟩
  | .local _ .vmem, ⟨9, _⟩ => ⟨S16x512, .f32⟩
  | .local _ .vmem, ⟨10, _⟩ => ⟨S16x512, .f32⟩
  | .local _ .vmem, ⟨11, _⟩ => ⟨S16x512, .f32⟩
  | .local _ .vmem, ⟨12, _⟩ => ⟨S2048x512, .bf16⟩
  | .local _ .vmem, ⟨13, _⟩ => ⟨S2048x512, .f32⟩
  | .local _ .vmem, ⟨14, _⟩ => ⟨S3x4x136x128, .f32⟩
  | .local _ .vmem, ⟨15, _⟩ => ⟨S16x512, .f32⟩
  | .local _ .vmem, ⟨16, _⟩ => ⟨S16x512, .f32⟩
  | .local _ .vmem, ⟨17, _⟩ => ⟨S16x512, .f32⟩
  | .local _ .vmem, ⟨18, _⟩ => ⟨S16x512, .f32⟩
  | .local _ .vmem, ⟨19, _⟩ => ⟨S16x512, .f32⟩
  | .local _ .vmem, ⟨20, _⟩ => ⟨S16x512, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_scratch8 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![11], ![false]⟩

@[reducible] def k0_t1_loop : Scf.Loop 32 :=
  let c0_i32_3551 : BitVec 32 := 0#32
  let c16_i32 : BitVec 32 := 16#32
  let v4504 : BitVec 32 := Scalar.addi c0_i32_3551 c16_i32
  let c1_i32_3552 : BitVec 32 := 1#32
  ⟨c0_i32_3551, v4504, c1_i32_3552⟩
def k0_off1 (k0_t1 : Fin k0_t1_loop.trips) : Fin 2 → Nat :=
  let c0_i32_3555 : BitVec 32 := 0#32
  let c0_i32_3551 : BitVec 32 := 0#32
  let c1_i32_3552 : BitVec 32 := 1#32
  let arg16 : BitVec 32 := Scf.iv c0_i32_3551 c1_i32_3552 k0_t1
  let c1_i32_3554 : BitVec 32 := 1#32
  let v4505 : BitVec 32 := Scalar.muli arg16 c1_i32_3554
  let v4506 : BitVec 32 := Scalar.addi c0_i32_3555 v4505
  let v4507 : Index := Scalar.indexCast v4506
  let c0_3556 : Index := 0#32
  ![v4507.toNat, 0]
def k0_off2 (k0_t1 : Fin k0_t1_loop.trips) (c0_i32_3561 : BitVec 32) (c0_i32_3562 : BitVec 32) : Fin 2 → Nat :=
  let c0_i32_3555 : BitVec 32 := 0#32
  let c0_i32_3551 : BitVec 32 := 0#32
  let c1_i32_3552 : BitVec 32 := 1#32
  let arg16 : BitVec 32 := Scf.iv c0_i32_3551 c1_i32_3552 k0_t1
  let c1_i32_3554 : BitVec 32 := 1#32
  let v4505 : BitVec 32 := Scalar.muli arg16 c1_i32_3554
  let v4506 : BitVec 32 := Scalar.addi c0_i32_3555 v4505
  let c128_i32 : BitVec 32 := 128#32
  let v4528 : BitVec 32 := Scalar.muli v4506 c128_i32
  let v4529 : BitVec 32 := Scalar.addi v4528 c0_i32_3561
  let v4530 : BitVec 32 := Scalar.addi v4529 c0_i32_3562
  let v4531 : Index := Scalar.indexCast v4530
  let c0_3563 : Index := 0#32
  ![v4531.toNat, 0]
def k0_off3 (k0_t1 : Fin k0_t1_loop.trips) (c0_i32_3583 : BitVec 32) : Fin 2 → Nat :=
  let c0_i32_3555 : BitVec 32 := 0#32
  let c0_i32_3551 : BitVec 32 := 0#32
  let c1_i32_3552 : BitVec 32 := 1#32
  let arg16 : BitVec 32 := Scf.iv c0_i32_3551 c1_i32_3552 k0_t1
  let c1_i32_3554 : BitVec 32 := 1#32
  let v4505 : BitVec 32 := Scalar.muli arg16 c1_i32_3554
  let v4506 : BitVec 32 := Scalar.addi c0_i32_3555 v4505
  let c128_i32_3582 : BitVec 32 := 128#32
  let v4612 : BitVec 32 := Scalar.muli v4506 c128_i32_3582
  let v4613 : BitVec 32 := Scalar.addi v4612 c0_i32_3583
  let v4616 : Index := Scalar.indexCast v4613
  let c0_3584 : Index := 0#32
  ![v4616.toNat, 0]
def k0_off4 (k0_t1 : Fin k0_t1_loop.trips) : Fin 2 → Nat :=
  let c0_i32_3555 : BitVec 32 := 0#32
  let c0_i32_3551 : BitVec 32 := 0#32
  let c1_i32_3552 : BitVec 32 := 1#32
  let arg16 : BitVec 32 := Scf.iv c0_i32_3551 c1_i32_3552 k0_t1
  let c1_i32_3554 : BitVec 32 := 1#32
  let v4505 : BitVec 32 := Scalar.muli arg16 c1_i32_3554
  let v4506 : BitVec 32 := Scalar.addi c0_i32_3555 v4505
  let v4912 : Index := Scalar.indexCast v4506
  let c128_3667 : Index := 128#32
  ![v4912.toNat, 128]
def k0_off5 (k0_t1 : Fin k0_t1_loop.trips) (c0_i32_3673 : BitVec 32) (c0_i32_3674 : BitVec 32) : Fin 2 → Nat :=
  let c0_i32_3555 : BitVec 32 := 0#32
  let c0_i32_3551 : BitVec 32 := 0#32
  let c1_i32_3552 : BitVec 32 := 1#32
  let arg16 : BitVec 32 := Scf.iv c0_i32_3551 c1_i32_3552 k0_t1
  let c1_i32_3554 : BitVec 32 := 1#32
  let v4505 : BitVec 32 := Scalar.muli arg16 c1_i32_3554
  let v4506 : BitVec 32 := Scalar.addi c0_i32_3555 v4505
  let c128_i32_3672 : BitVec 32 := 128#32
  let v4933 : BitVec 32 := Scalar.muli v4506 c128_i32_3672
  let v4934 : BitVec 32 := Scalar.addi v4933 c0_i32_3673
  let v4935 : BitVec 32 := Scalar.addi v4934 c0_i32_3674
  let v4936 : Index := Scalar.indexCast v4935
  let c128_3675 : Index := 128#32
  ![v4936.toNat, 128]
def k0_off6 (k0_t1 : Fin k0_t1_loop.trips) (c0_i32_3697 : BitVec 32) : Fin 2 → Nat :=
  let c0_i32_3555 : BitVec 32 := 0#32
  let c0_i32_3551 : BitVec 32 := 0#32
  let c1_i32_3552 : BitVec 32 := 1#32
  let arg16 : BitVec 32 := Scf.iv c0_i32_3551 c1_i32_3552 k0_t1
  let c1_i32_3554 : BitVec 32 := 1#32
  let v4505 : BitVec 32 := Scalar.muli arg16 c1_i32_3554
  let v4506 : BitVec 32 := Scalar.addi c0_i32_3555 v4505
  let c128_i32_3696 : BitVec 32 := 128#32
  let v5017 : BitVec 32 := Scalar.muli v4506 c128_i32_3696
  let v5018 : BitVec 32 := Scalar.addi v5017 c0_i32_3697
  let v5021 : Index := Scalar.indexCast v5018
  let c128_3698 : Index := 128#32
  ![v5021.toNat, 128]
def k0_off7 (k0_t1 : Fin k0_t1_loop.trips) : Fin 2 → Nat :=
  let c0_i32_3555 : BitVec 32 := 0#32
  let c0_i32_3551 : BitVec 32 := 0#32
  let c1_i32_3552 : BitVec 32 := 1#32
  let arg16 : BitVec 32 := Scf.iv c0_i32_3551 c1_i32_3552 k0_t1
  let c1_i32_3554 : BitVec 32 := 1#32
  let v4505 : BitVec 32 := Scalar.muli arg16 c1_i32_3554
  let v4506 : BitVec 32 := Scalar.addi c0_i32_3555 v4505
  let v5317 : Index := Scalar.indexCast v4506
  let c256_3784 : Index := 256#32
  ![v5317.toNat, 256]
def k0_off8 (k0_t1 : Fin k0_t1_loop.trips) (c0_i32_3790 : BitVec 32) (c0_i32_3791 : BitVec 32) : Fin 2 → Nat :=
  let c0_i32_3555 : BitVec 32 := 0#32
  let c0_i32_3551 : BitVec 32 := 0#32
  let c1_i32_3552 : BitVec 32 := 1#32
  let arg16 : BitVec 32 := Scf.iv c0_i32_3551 c1_i32_3552 k0_t1
  let c1_i32_3554 : BitVec 32 := 1#32
  let v4505 : BitVec 32 := Scalar.muli arg16 c1_i32_3554
  let v4506 : BitVec 32 := Scalar.addi c0_i32_3555 v4505
  let c128_i32_3789 : BitVec 32 := 128#32
  let v5338 : BitVec 32 := Scalar.muli v4506 c128_i32_3789
  let v5339 : BitVec 32 := Scalar.addi v5338 c0_i32_3790
  let v5340 : BitVec 32 := Scalar.addi v5339 c0_i32_3791
  let v5341 : Index := Scalar.indexCast v5340
  let c256_3792 : Index := 256#32
  ![v5341.toNat, 256]
def k0_off9 (k0_t1 : Fin k0_t1_loop.trips) (c0_i32_3814 : BitVec 32) : Fin 2 → Nat :=
  let c0_i32_3555 : BitVec 32 := 0#32
  let c0_i32_3551 : BitVec 32 := 0#32
  let c1_i32_3552 : BitVec 32 := 1#32
  let arg16 : BitVec 32 := Scf.iv c0_i32_3551 c1_i32_3552 k0_t1
  let c1_i32_3554 : BitVec 32 := 1#32
  let v4505 : BitVec 32 := Scalar.muli arg16 c1_i32_3554
  let v4506 : BitVec 32 := Scalar.addi c0_i32_3555 v4505
  let c128_i32_3813 : BitVec 32 := 128#32
  let v5422 : BitVec 32 := Scalar.muli v4506 c128_i32_3813
  let v5423 : BitVec 32 := Scalar.addi v5422 c0_i32_3814
  let v5426 : Index := Scalar.indexCast v5423
  let c256_3815 : Index := 256#32
  ![v5426.toNat, 256]
def k0_off10 (k0_t1 : Fin k0_t1_loop.trips) : Fin 2 → Nat :=
  let c0_i32_3555 : BitVec 32 := 0#32
  let c0_i32_3551 : BitVec 32 := 0#32
  let c1_i32_3552 : BitVec 32 := 1#32
  let arg16 : BitVec 32 := Scf.iv c0_i32_3551 c1_i32_3552 k0_t1
  let c1_i32_3554 : BitVec 32 := 1#32
  let v4505 : BitVec 32 := Scalar.muli arg16 c1_i32_3554
  let v4506 : BitVec 32 := Scalar.addi c0_i32_3555 v4505
  let v5722 : Index := Scalar.indexCast v4506
  let c384_3901 : Index := 384#32
  ![v5722.toNat, 384]
def k0_off11 (k0_t1 : Fin k0_t1_loop.trips) (c0_i32_3907 : BitVec 32) (c0_i32_3908 : BitVec 32) : Fin 2 → Nat :=
  let c0_i32_3555 : BitVec 32 := 0#32
  let c0_i32_3551 : BitVec 32 := 0#32
  let c1_i32_3552 : BitVec 32 := 1#32
  let arg16 : BitVec 32 := Scf.iv c0_i32_3551 c1_i32_3552 k0_t1
  let c1_i32_3554 : BitVec 32 := 1#32
  let v4505 : BitVec 32 := Scalar.muli arg16 c1_i32_3554
  let v4506 : BitVec 32 := Scalar.addi c0_i32_3555 v4505
  let c128_i32_3906 : BitVec 32 := 128#32
  let v5743 : BitVec 32 := Scalar.muli v4506 c128_i32_3906
  let v5744 : BitVec 32 := Scalar.addi v5743 c0_i32_3907
  let v5745 : BitVec 32 := Scalar.addi v5744 c0_i32_3908
  let v5746 : Index := Scalar.indexCast v5745
  let c384_3909 : Index := 384#32
  ![v5746.toNat, 384]
def k0_off12 (k0_t1 : Fin k0_t1_loop.trips) (c0_i32_3931 : BitVec 32) : Fin 2 → Nat :=
  let c0_i32_3555 : BitVec 32 := 0#32
  let c0_i32_3551 : BitVec 32 := 0#32
  let c1_i32_3552 : BitVec 32 := 1#32
  let arg16 : BitVec 32 := Scf.iv c0_i32_3551 c1_i32_3552 k0_t1
  let c1_i32_3554 : BitVec 32 := 1#32
  let v4505 : BitVec 32 := Scalar.muli arg16 c1_i32_3554
  let v4506 : BitVec 32 := Scalar.addi c0_i32_3555 v4505
  let c128_i32_3930 : BitVec 32 := 128#32
  let v5827 : BitVec 32 := Scalar.muli v4506 c128_i32_3930
  let v5828 : BitVec 32 := Scalar.addi v5827 c0_i32_3931
  let v5831 : Index := Scalar.indexCast v5828
  let c384_3932 : Index := 384#32
  ![v5831.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2048x5632 : Shape := ⟨2, ![2048, 5632]⟩
abbrev S16x5632 : Shape := ⟨2, ![16, 5632]⟩
abbrev S16x128x5632 : Shape := ⟨3, ![16, 128, 5632]⟩
abbrev S16x1x5632 : Shape := ⟨3, ![16, 1, 5632]⟩

abbrev nBuf : Space → Nat
  | .hbm => 6
  | .vmem => 6
  | .smem => 0
  | _ => 0

abbrev bufTy : (tb : Table) → Fin (tcTables nBuf tb) → BufTy
  | .hbm, ⟨0, _⟩ => ⟨S2048x5632, .f32⟩
  | .hbm, ⟨1, _⟩ => ⟨S16x5632, .f32⟩
  | .hbm, ⟨2, _⟩ => ⟨S16x5632, .f32⟩
  | .hbm, ⟨3, _⟩ => ⟨S2048x5632, .i8⟩
  | .hbm, ⟨4, _⟩ => ⟨S16x5632, .f32⟩
  | .hbm, ⟨5, _⟩ => ⟨S16x5632, .f32⟩
  | .local _ .vmem, ⟨0, _⟩ => ⟨S2048x5632, .f32⟩
  | .local _ .vmem, ⟨1, _⟩ => ⟨S16x5632, .f32⟩
  | .local _ .vmem, ⟨2, _⟩ => ⟨S16x5632, .f32⟩
  | .local _ .vmem, ⟨3, _⟩ => ⟨S2048x5632, .i8⟩
  | .local _ .vmem, ⟨4, _⟩ => ⟨S16x5632, .f32⟩
  | .local _ .vmem, ⟨5, _⟩ => ⟨S16x5632, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x5632 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Products.lean ====
abbrev S256x2048 : Shape := ⟨2, ![256, 2048]⟩
abbrev S1x256 : Shape := ⟨2, ![1, 256]⟩
abbrev S2048x5632 : Shape := ⟨2, ![2048, 5632]⟩
abbrev S16x5632 : Shape := ⟨2, ![16, 5632]⟩
abbrev S256x5632 : Shape := ⟨2, ![256, 5632]⟩
abbrev S1x1 : Shape := ⟨2, ![1, 1]⟩
abbrev S2048x512 : Shape := ⟨2, ![2048, 512]⟩
abbrev S16x512 : Shape := ⟨2, ![16, 512]⟩
abbrev S256x512 : Shape := ⟨2, ![256, 512]⟩
abbrev S2048x256 : Shape := ⟨2, ![2048, 256]⟩
abbrev S256x128 : Shape := ⟨2, ![256, 128]⟩
abbrev S3x4x136x128 : Shape := ⟨4, ![3, 4, 136, 128]⟩
abbrev S8x512 : Shape := ⟨2, ![8, 512]⟩
abbrev S128x256 : Shape := ⟨2, ![128, 256]⟩
abbrev S32x8x512 : Shape := ⟨3, ![32, 8, 512]⟩
abbrev S256x256 : Shape := ⟨2, ![256, 256]⟩
abbrev S128x512 : Shape := ⟨2, ![128, 512]⟩
abbrev S16x8x512 : Shape := ⟨3, ![16, 8, 512]⟩
abbrev S8x128 : Shape := ⟨2, ![8, 128]⟩
abbrev S1x1x136x128 : Shape := ⟨4, ![1, 1, 136, 128]⟩
abbrev S136x128 : Shape := ⟨2, ![136, 128]⟩
abbrev S1x8x512 : Shape := ⟨3, ![1, 8, 512]⟩
abbrev S1 : Shape := ⟨1, ![1]⟩
abbrev S1x1x1 : Shape := ⟨3, ![1, 1, 1]⟩

abbrev nBuf : Space → Nat
  | .hbm => 12
  | .vmem => 26
  | .smem => 0
  | _ => 0

abbrev bufTy : (tb : Table) → Fin (tcTables nBuf tb) → BufTy
  | .hbm, ⟨0, _⟩ => ⟨S256x2048, .fp8e4m3⟩
  | .hbm, ⟨1, _⟩ => ⟨S1x256, .f32⟩
  | .hbm, ⟨2, _⟩ => ⟨S2048x5632, .bf16⟩
  | .hbm, ⟨3, _⟩ => ⟨S2048x5632, .f32⟩
  | .hbm, ⟨4, _⟩ => ⟨S16x5632, .f32⟩
  | .hbm, ⟨5, _⟩ => ⟨S16x5632, .f32⟩
  | .hbm, ⟨6, _⟩ => ⟨S16x5632, .f32⟩
  | .hbm, ⟨7, _⟩ => ⟨S16x5632, .f32⟩
  | .hbm, ⟨8, _⟩ => ⟨S256x5632, .bf16⟩
  | .hbm, ⟨9, _⟩ => ⟨S16x5632, .f32⟩
  | .hbm, ⟨10, _⟩ => ⟨S16x5632, .f32⟩
  | .hbm, ⟨11, _⟩ => ⟨S1x1, .f32⟩
  | .local _ .vmem, ⟨0, _⟩ => ⟨S256x2048, .fp8e4m3⟩
  | .local _ .vmem, ⟨1, _⟩ => ⟨S1x256, .f32⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S16x512, .f32⟩
  | .local _ .vmem, ⟨7, _⟩ => ⟨S16x512, .f32⟩
  | .local _ .vmem, ⟨8, _⟩ => ⟨S16x512, .f32⟩
  | .local _ .vmem, ⟨9, _⟩ => ⟨S16x512, .f32⟩
  | .local _ .vmem, ⟨10, _⟩ => ⟨S16x512, .f32⟩
  | .local _ .vmem, ⟨11, _⟩ => ⟨S16x512, .f32⟩
  | .local _ .vmem, ⟨12, _⟩ => ⟨S16x512, .f32⟩
  | .local _ .vmem, ⟨13, _⟩ => ⟨S16x512, .f32⟩
  | .local _ .vmem, ⟨14, _⟩ => ⟨S256x512, .bf16⟩
  | .local _ .vmem, ⟨15, _⟩ => ⟨S256x512, .bf16⟩
  | .local _ .vmem, ⟨16, _⟩ => ⟨S16x512, .f32⟩
  | .local _ .vmem, ⟨17, _⟩ => ⟨S16x512, .f32⟩
  | .local _ .vmem, ⟨18, _⟩ => ⟨S16x512, .f32⟩
  | .local _ .vmem, ⟨19, _⟩ => ⟨S16x512, .f32⟩
  | .local _ .vmem, ⟨20, _⟩ => ⟨S1x1, .f32⟩
  | .local _ .vmem, ⟨21, _⟩ => ⟨S256x2048, .bf16⟩
  | .local _ .vmem, ⟨22, _⟩ => ⟨S2048x256, .bf16⟩
  | .local _ .vmem, ⟨23, _⟩ => ⟨S256x128, .f32⟩
  | .local _ .vmem, ⟨24, _⟩ => ⟨S3x4x136x128, .f32⟩
  | .local _ .vmem, ⟨25, _⟩ => ⟨S8x512, .f32⟩
  | _, _ => ⟨S256x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![11], ![false]⟩

def k0_cond2 (i : grid0.Coords) : BitVec 1 :=
  let arg0 : BitVec 32 := BitVec.ofNat 32 (i 0).val
  let c10_i32 : BitVec 32 := 10#32
  let v1038 : BitVec 1 := Scalar.cmpi .eq arg0 c10_i32
  let v1039 : BitVec 32 := Scalar.extui v1038
  let c0_i32_988 : BitVec 32 := 0#32
  let v1040 : BitVec 1 := Scalar.cmpi .ne v1039 c0_i32_988
  v1040

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GradientsIdeal.lean ====
abbrev S256x2048 : Shape := ⟨2, ![256, 2048]⟩
abbrev S1x256 : Shape := ⟨2, ![1, 256]⟩
abbrev S2048x5632 : Shape := ⟨2, ![2048, 5632]⟩
abbrev S16x5632 : Shape := ⟨2, ![16, 5632]⟩
abbrev S256x5632 : Shape := ⟨2, ![256, 5632]⟩
abbrev S1x1 : Shape := ⟨2, ![1, 1]⟩
abbrev S256x1 : Shape := ⟨2, ![256, 1]⟩
abbrev S1x256x5632 : Shape := ⟨3, ![1, 256, 5632]⟩
abbrev S1 : Shape := ⟨1, ![1]⟩
abbrev S1x1x1 : Shape := ⟨3, ![1, 1, 1]⟩
abbrev S2048x256 : Shape := ⟨2, ![2048, 256]⟩
abbrev S16x128x5632 : Shape := ⟨3, ![16, 128, 5632]⟩

abbrev nBuf : Space → Nat
  | .hbm => 12
  | .vmem => 12
  | .smem => 0
  | _ => 0

abbrev bufTy : (tb : Table) → Fin (tcTables nBuf tb) → BufTy
  | .hbm, ⟨0, _⟩ => ⟨S256x2048, .fp8e4m3⟩
  | .hbm, ⟨1, _⟩ => ⟨S1x256, .f32⟩
  | .hbm, ⟨2, _⟩ => ⟨S2048x5632, .bf16⟩
  | .hbm, ⟨3, _⟩ => ⟨S2048x5632, .f32⟩
  | .hbm, ⟨4, _⟩ => ⟨S16x5632, .f32⟩
  | .hbm, ⟨5, _⟩ => ⟨S16x5632, .f32⟩
  | .hbm, ⟨6, _⟩ => ⟨S16x5632, .f32⟩
  | .hbm, ⟨7, _⟩ => ⟨S16x5632, .f32⟩
  | .hbm, ⟨8, _⟩ => ⟨S256x5632, .bf16⟩
  | .hbm, ⟨9, _⟩ => ⟨S16x5632, .f32⟩
  | .hbm, ⟨10, _⟩ => ⟨S16x5632, .f32⟩
  | .hbm, ⟨11, _⟩ => ⟨S1x1, .f32⟩
  | .local _ .vmem, ⟨0, _⟩ => ⟨S256x2048, .fp8e4m3⟩
  | .local _ .vmem, ⟨1, _⟩ => ⟨S1x256, .f32⟩
  | .local _ .vmem, ⟨2, _⟩ => ⟨S2048x5632, .bf16⟩
  | .local _ .vmem, ⟨3, _⟩ => ⟨S2048x5632, .f32⟩
  | .local _ .vmem, ⟨4, _⟩ => ⟨S16x5632, .f32⟩
  | .local _ .vmem, ⟨5, _⟩ => ⟨S16x5632, .f32⟩
  | .local _ .vmem, ⟨6, _⟩ => ⟨S16x5632, .f32⟩
  | .local _ .vmem, ⟨7, _⟩ => ⟨S16x5632, .f32⟩
  | .local _ .vmem, ⟨8, _⟩ => ⟨S256x5632, .bf16⟩
  | .local _ .vmem, ⟨9, _⟩ => ⟨S16x5632, .f32⟩
  | .local _ .vmem, ⟨10, _⟩ => ⟨S16x5632, .f32⟩
  | .local _ .vmem, ⟨11, _⟩ => ⟨S1x1, .f32⟩
  | _, _ => ⟨S256x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S256x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x5632 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Quant.lean ====
/- The quantiser of one weight, over the extended reals: the kernel's arrangement of it against the
   reference's. Both take the step `h`, which is not zero, and the offset `z`, which is then an integer. -/
module

public import Idealize.ShloMosaic.PureOps.Ideal
public import Idealize.ShloMosaic.PureOps.Ideal.Laws
public import Idealize.ShloMosaic.Lib.IdealHost

@[expose] public section

noncomputable section

namespace Cert.Quant

open Idealize.ShloMosaic

/-- Rounding to the nearest integer, ties to even. -/
abbrev rnd (x : EReal) : EReal := Ideal.liftRound Ideal.roundHalfEven x

theorem ofBits_fifteen : Ideal.ofBits .f32 0x41700000#32 = ((15 : ℝ) : EReal) := by
  simp [Ideal.ofBits, Ideal.ieee, -EReal.coe_mul]; norm_num

theorem ofBits_magic : Ideal.ofBits .f32 0x4B400000#32 = ((12582912 : ℝ) : EReal) := by
  simp [Ideal.ofBits, Ideal.ieee, -EReal.coe_mul]

theorem ofBits_bot : Ideal.ofBits .f32 0xFF800000#32 = (⊥ : EReal) := by
  simp [Ideal.ofBits, Ideal.ieee, -EReal.coe_mul]

theorem ofBits_top : Ideal.ofBits .f32 0x7F800000#32 = (⊤ : EReal) := by
  simp [Ideal.ofBits, Ideal.ieee, -EReal.coe_mul]

/-- A difference of extended reals that is a real number is one of two real numbers. -/
theorem real_of_sub {a b : EReal} {r : ℝ} (h : a - b = r) : ∃ s t : ℝ, a = s ∧ b = t := by
  induction a with
  | bot => rw [EReal.bot_sub] at h; exact absurd h (by simp)
  | top =>
    induction b with
    | bot => exact absurd h (by simp)
    | top => exact absurd h (by simp)
    | coe t => exact absurd h (by simp)
  | coe s =>
    induction b with
    | bot => exact absurd h (by simp)
    | top => exact absurd h (by simp)
    | coe t => exact ⟨s, t, rfl, rfl⟩

/-- The step of a group, from the two clipping bounds. -/
def step (hi lo : EReal) : EReal := Ideal.div (hi - lo) ((15 : ℝ) : EReal)

/-- The offset of a group. -/
def offset (hi lo : EReal) : EReal := 0 - rnd (Ideal.div lo (step hi lo))

/-- Where the step is not zero the offset is an integer. -/
theorem offset_int {hi lo : EReal} (h : step hi lo ≠ 0) : ∃ n : ℤ, offset hi lo = ((n : ℝ) : EReal) := by
  unfold offset
  have key : ∃ r : ℝ, Ideal.div lo (step hi lo) = r := by
    rw [Ideal.div, if_neg h]
    by_cases hr : ∃ r : ℝ, hi - lo = r
    · obtain ⟨r, hr⟩ := hr
      obtain ⟨s, t, rfl, rfl⟩ := real_of_sub hr
      refine ⟨t * ((s - t) * (1 / 15))⁻¹, ?_⟩
      rw [step, Ideal.div_coe (by norm_num), ← EReal.coe_sub, ← EReal.coe_mul, ← EReal.coe_inv, ← EReal.coe_mul]
    · refine ⟨0, ?_⟩
      have : (step hi lo)⁻¹ = 0 := by
        rw [step, Ideal.div_coe (by norm_num)]
        generalize hi - lo = d at hr
        induction d with
        | bot => rw [EReal.bot_mul_coe_of_pos (by norm_num)]; simp
        | top => rw [EReal.top_mul_coe_of_pos (by norm_num)]; simp
        | coe d => exact absurd ⟨d, rfl⟩ hr
      rw [this, mul_zero]; rfl
  obtain ⟨r, hr⟩ := key
  refine ⟨-Ideal.roundHalfEven r, ?_⟩
  rw [hr, rnd, Ideal.liftRound_coe, ← EReal.coe_zero, ← EReal.coe_sub]
  push_cast; rw [zero_sub]

/-- The quantised weight, as the reference takes it. -/
def qword (w h z : EReal) : BitVec 8 :=
  Ideal.fptosi 8 (min ((15 : ℝ) : EReal) (max 0 (rnd (Ideal.div w h) + z)))

/-- The kernel's clamped integer: `round (w · (1/h))` between `0 - z` and `15 - z`. -/
def kq (w h z : EReal) : EReal :=
  min (max (rnd (w * Ideal.div 1 h)) (0 - z)) (((15 : ℝ) : EReal) - z)

theorem mul_rcp {h : EReal} (hh : h ≠ 0) (w : EReal) : w * Ideal.div 1 h = Ideal.div w h :=
  Ideal.mul_one_div hh

/-- A clamp of a sum is an integer between 0 and 15. -/
theorem clip_int (x : EReal) (n : ℤ) (hx : (∃ k : ℤ, x = ((k : ℝ) : EReal)) ∨ x = ⊤ ∨ x = ⊥) :
    ∃ c : ℤ, 0 ≤ c ∧ c ≤ 15 ∧ min ((15 : ℝ) : EReal) (max 0 (x + ((n : ℝ) : EReal))) = ((c : ℝ) : EReal)
      ∧ min (max x (0 - ((n : ℝ) : EReal))) (((15 : ℝ) : EReal) - ((n : ℝ) : EReal)) = (((c - n : ℤ) : ℝ) : EReal)
      ∧ ((x = (((c - n : ℤ) : ℝ) : EReal)) ↔ ((0 : EReal) ≤ x + ((n : ℝ) : EReal) ∧ x + ((n : ℝ) : EReal) ≤ ((15 : ℝ) : EReal))) := by
  rcases hx with ⟨k, rfl⟩ | rfl | rfl
  · refine ⟨min 15 (max 0 (k + n)), by omega, by omega, ?_, ?_, ?_⟩
    · rw [← EReal.coe_add, ← EReal.coe_zero]
      rcases le_total 0 (k + n) with h0 | h0
      · have : (0 : ℝ) ≤ (k : ℝ) + n := by exact_mod_cast h0
        rw [max_eq_right (by exact_mod_cast this), max_eq_right h0]
        rcases le_total (k + n) 15 with h1 | h1
        · have : (k : ℝ) + n ≤ 15 := by exact_mod_cast h1
          rw [min_eq_right (by exact_mod_cast this), min_eq_right h1]; push_cast; rfl
        · have : (15 : ℝ) ≤ (k : ℝ) + n := by exact_mod_cast h1
          rw [min_eq_left (by exact_mod_cast this), min_eq_left h1]; push_cast; rfl
      · have : (k : ℝ) + n ≤ 0 := by exact_mod_cast h0
        rw [max_eq_left (by exact_mod_cast this), max_eq_left h0, min_eq_right (by norm_num), min_eq_right (by norm_num)]
        norm_num
    · rw [← EReal.coe_zero, ← EReal.coe_sub, ← EReal.coe_sub]
      have e : min 15 (max 0 (k + n)) - n = min (max k (-n)) (15 - n) := by omega
      have m1 := (EReal.coe_strictMono.monotone.map_max : ((max (k : ℝ) (-(n : ℝ)) : ℝ) : EReal) = _)
      have m2 := (EReal.coe_strictMono.monotone.map_min : ((min (max (k : ℝ) (-(n : ℝ))) (15 - (n : ℝ)) : ℝ) : EReal) = _)
      rw [e, zero_sub, ← m1, ← m2]; push_cast; rfl
    · rw [← EReal.coe_add, ← EReal.coe_zero, EReal.coe_eq_coe_iff, EReal.coe_le_coe_iff, EReal.coe_le_coe_iff]
      have : ((k : ℝ) = ((min 15 (max 0 (k + n)) - n : ℤ) : ℝ)) ↔ k = min 15 (max 0 (k + n)) - n := by norm_cast
      rw [this]
      have h1 : (0 : ℝ) ≤ (k : ℝ) + n ↔ 0 ≤ k + n := by norm_cast
      have h2 : (k : ℝ) + n ≤ 15 ↔ k + n ≤ 15 := by norm_cast
      rw [h1, h2]; omega
  · refine ⟨15, by norm_num, by norm_num, ?_, ?_, ?_⟩
    · rw [EReal.top_add_coe]; simp
    · rw [max_eq_left le_top, min_eq_right le_top, ← EReal.coe_sub]; push_cast; rfl
    · rw [EReal.top_add_coe]; exact iff_of_false (EReal.coe_ne_top _).symm (by simp)
  · refine ⟨0, by norm_num, by norm_num, ?_, ?_, ?_⟩
    · rw [EReal.bot_add]; rw [max_eq_left bot_le, min_eq_right (by exact_mod_cast (by norm_num : (0:ℝ) ≤ 15))]; norm_num
    · rw [max_eq_right bot_le, ← EReal.coe_zero, ← EReal.coe_sub, ← EReal.coe_sub,
        min_eq_left (by exact_mod_cast (by linarith : (0 : ℝ) - n ≤ 15 - n))]
      push_cast; rfl
    · rw [EReal.bot_add]; exact iff_of_false (EReal.coe_ne_bot _).symm (by simp)

theorem rnd_cases (x : EReal) : (∃ k : ℤ, rnd x = ((k : ℝ) : EReal)) ∨ rnd x = ⊤ ∨ rnd x = ⊥ := by
  induction x with
  | bot => right; right; rfl
  | top => right; left; rfl
  | coe r => left; exact ⟨_, Ideal.liftRound_coe _ _⟩

theorem fptosi8_int {c : ℤ} (h0 : 0 ≤ c) (h1 : c ≤ 15) : Ideal.fptosi 8 (((c : ℝ)) : EReal) = BitVec.ofInt 8 c := by
  have hc : (0 : ℝ) ≤ c := by exact_mod_cast h0
  rw [Ideal.fptosi, Ideal.toIntClamped_coe, if_pos hc, Int.floor_intCast]
  congr 1; norm_num; omega

theorem fptosi32_int {c : ℤ} (h0 : 0 ≤ c) (h1 : c ≤ 15) : Ideal.fptosi 32 (((c : ℝ)) : EReal) = BitVec.ofInt 32 c := by
  have hc : (0 : ℝ) ≤ c := by exact_mod_cast h0
  rw [Ideal.fptosi, Ideal.toIntClamped_coe, if_pos hc, Int.floor_intCast]
  congr 1; norm_num; omega

/-- The kernel's quantised weight: through a 32-bit integer, then cut to eight bits. -/
theorem qword_eq {w h : EReal} (hh : h ≠ 0) (n : ℤ) :
    (Ideal.fptosi 32 (kq w h ((n : ℝ) : EReal) + (((n : ℝ) : EReal) + ((12582912 : ℝ) : EReal)) - ((12582912 : ℝ) : EReal))).setWidth 8
      = qword w h ((n : ℝ) : EReal) := by
  obtain ⟨c, h0, h1, e1, e2, -⟩ := clip_int (rnd (Ideal.div w h)) n (rnd_cases _)
  rw [kq, mul_rcp hh, e2, qword, e1, fptosi8_int h0 h1, ← EReal.coe_add, ← EReal.coe_add, ← EReal.coe_sub]
  have : (((c - n : ℤ) : ℝ) + ((n : ℝ) + 12582912) - 12582912) = (c : ℝ) := by push_cast; ring
  rw [this, fptosi32_int h0 h1]
  obtain ⟨k, rfl⟩ := Int.eq_ofNat_of_zero_le h0
  have hk : k < 16 := by omega
  interval_cases k <;> rfl

end Cert.Quant

end
-- ==== Proof.Column.lean ====
/- One column of the problem: the quantiser of its sixteen groups, as functions of the column's numbers. The
   kernel's blocks and the reference's whole arrays are both made of such columns. -/
module

public import proofs.«01_k».proof.Proof.Quant

@[expose] public section

noncomputable section

namespace Cert

open Idealize.ShloMosaic Cert.Quant

/-- What one column is computed from: its weights and its groups' clipping parameters. -/
structure Col where
  w : Fin 2048 → EReal
  ga : Fin 16 → EReal
  be : Fin 16 → EReal

namespace Col

/-- The row of the `k`-th weight of group `g`. -/
def row (g : Fin 16) (k : Fin 128) : Fin 2048 := ⟨g.val * 128 + k.val, by omega⟩

/-- The group of a row. -/
def grp (r : Fin 2048) : Fin 16 := ⟨r.val / 128, by omega⟩

theorem grp_row (g : Fin 16) (k : Fin 128) : grp (row g k) = g := by
  apply Fin.ext; simp only [grp, row]; omega

variable (C : Col)

/-- The largest weight of a group. -/
def wmax (g : Fin 16) : EReal := Finset.univ.fold max ⊥ fun k : Fin 128 => C.w (row g k)

/-- The smallest weight of a group. -/
def wmin (g : Fin 16) : EReal := Finset.univ.fold min ⊤ fun k : Fin 128 => C.w (row g k)

def sg (g : Fin 16) : EReal := Ideal.logistic (C.ga g)
def sb (g : Fin 16) : EReal := Ideal.logistic (C.be g)

/-- The step of a group. -/
def h (g : Fin 16) : EReal := step (C.sg g * C.wmax g) (C.sb g * C.wmin g)

/-- The offset of a group. -/
def z (g : Fin 16) : EReal := offset (C.sg g * C.wmax g) (C.sb g * C.wmin g)

/-- The quantised weight. -/
def q (r : Fin 2048) : BitVec 8 := qword (C.w r) (C.h (grp r)) (C.z (grp r))

theorem wmax_le_iff (g : Fin 16) (c : EReal) : C.wmax g ≤ c ↔ ∀ k : Fin 128, C.w (row g k) ≤ c := by
  rw [wmax, Finset.fold_max_le]; simp

theorem le_wmin_iff (g : Fin 16) (c : EReal) : c ≤ C.wmin g ↔ ∀ k : Fin 128, c ≤ C.w (row g k) := by
  rw [wmin, Finset.le_fold_min]; simp

end Col

end Cert

end
-- ==== Proof.Trip.lean ====
module

public import proofs.«01_k».proof.Proof.Column
public import proofs.«01_k».proof.Proof.Gen.KernelIdeal.Loops
public import Idealize.ShloMosaic.Lib.Pointwise
public import Idealize.ShloMosaic.Lib.Pipeline.ReadBack

@[expose] public section

noncomputable section

/-! # One trip of the quantise loop

Trip `k` handles the 128 rows of group `k`. Every code it stores is a tile of the
array `gq`, which is written here element by element. -/

namespace Cert.Trip

open Idealize.ShloMosaic Cert.KernelIdeal Cert.KernelIdeal.Gen
open Idealize.ShloMosaic.TcCoe Idealize.ShloMosaic.Tactic Idealize.SL Idealize.SL.Sem

/-- The group row and the column of an element of the weights. -/
def grp (y : S2048x512.Idx) : S16x512.Idx :=
  ix2 ⟨(y 0).val / 128, by have : (y 0).val < 2048 := (y 0).isLt; omega⟩ (y 1)

/-- The clipped code before the zero point is added. -/
def gk (W : S2048x512.Idx → EReal) (RH LO HI : S16x512.Idx → EReal) (y : S2048x512.Idx) : EReal :=
  min (max (Ideal.liftRound Ideal.roundHalfEven (W y * RH (grp y))) (LO (grp y))) (HI (grp y))

/-- The code before it is narrowed to eight bits. -/
def gq32 (W : S2048x512.Idx → EReal) (RH LO HI ZM : S16x512.Idx → EReal) (y : S2048x512.Idx) : BitVec 32 :=
  Ideal.fptosi 32 (gk W RH LO HI y + ZM (grp y) - Ideal.ofBits .f32 0x4B400000#32)

/-- The stored code. -/
def gq (W : S2048x512.Idx → EReal) (RH LO HI ZM : S16x512.Idx → EReal) (y : S2048x512.Idx) : BitVec 8 :=
  (gq32 W RH LO HI ZM y).setWidth 8

/-- A row tile's element and the group row it reads have the same group and column. -/
theorem emb_grp {o1 o8 : Fin 2 → ℕ} {R : ℕ} {inb1 inb8} (k c r : ℕ) (h1 : o1 = ![k, c])
    (h8 : o8 = ![128 * k + r, c]) (a : Fin R) (b : Fin 128) (hr : r + a.val < 128) :
    (Rect.unit (s := S16x512) o1 S1x128.size inb1).emb (ix2 (0 : Fin 1) b)
      = grp ((Rect.unit (s := S2048x512) o8 ![R, 128] inb8).emb (ix2 a b)) := by
  subst h1 h8
  funext i
  apply Fin.ext
  fin_cases i
  · simp [grp, Rect.emb_apply]; omega
  · simp [grp, Rect.emb_apply]

theorem ix_eta {m n : ℕ} (x : (⟨2, ![m, n]⟩ : Shape).Idx) : x = ix2 (x 0) (x 1) := by
  funext i; fin_cases i <;> rfl

variable {κ : Kind} {sp : Space} (v3 : View sig κ sp S2048x512 .f32)
  (v21 v22 v23 v24 : View sig κ sp S16x512 .f32)
  (X3 : BufTy.Contents (Elt Ideal) v3.ty) (X21 : BufTy.Contents (Elt Ideal) v21.ty)
  (X22 : BufTy.Contents (Elt Ideal) v22.ty)
  (X23 : BufTy.Contents (Elt Ideal) v23.ty) (X24 : BufTy.Contents (Elt Ideal) v24.ty)

/-- What an element of four 8-row tiles laid one below the other is. -/
theorem cat_apply {α : Type} (p0 p1 p2 p3 : S8x128.Idx → α) (a : Fin 32) (b : Fin 128) :
    concatenate S32x128 0 [⟨S8x128, p0⟩, ⟨S8x128, p1⟩, ⟨S8x128, p2⟩, ⟨S8x128, p3⟩] concatenates_S8x128_S8x128_S8x128_S8x128_S32x128_d0 (ix2 a b)
    = if h : a.val < 8 then p0 (ix2 ⟨a.val, h⟩ b)
      else if h : a.val - 8 < 8 then p1 (ix2 ⟨a.val - 8, h⟩ b)
      else if h : a.val - 8 - 8 < 8 then p2 (ix2 ⟨a.val - 8 - 8, h⟩ b)
      else p3 (ix2 ⟨a.val - 8 - 8 - 8, by omega⟩ b) := by
  pointwise

/-- Four tiles of one function of the index, laid one below the other, are that function's tile. -/
theorem cat_tile {α : Type} (f : S2048x512.Idx → α) (p0 p1 p2 p3 : S8x128.Idx → α)
    {o o0 o1 o2 o3 : Fin 2 → ℕ} {inb inb0 inb1 inb2 inb3} (k c r : ℕ) (h : o = ![128 * k + r, c])
    (h0 : o0 = ![128 * k + (r + 0), c]) (h1 : o1 = ![128 * k + (r + 8), c])
    (h2 : o2 = ![128 * k + (r + 16), c]) (h3 : o3 = ![128 * k + (r + 24), c])
    (e0 : ∀ x : S8x128.Idx, p0 x = f ((Rect.unit (s := S2048x512) o0 S8x128.size inb0).emb x))
    (e1 : ∀ x : S8x128.Idx, p1 x = f ((Rect.unit (s := S2048x512) o1 S8x128.size inb1).emb x))
    (e2 : ∀ x : S8x128.Idx, p2 x = f ((Rect.unit (s := S2048x512) o2 S8x128.size inb2).emb x))
    (e3 : ∀ x : S8x128.Idx, p3 x = f ((Rect.unit (s := S2048x512) o3 S8x128.size inb3).emb x))
    (x : S32x128.Idx) :
    concatenate S32x128 0 [⟨S8x128, p0⟩, ⟨S8x128, p1⟩, ⟨S8x128, p2⟩, ⟨S8x128, p3⟩] concatenates_S8x128_S8x128_S8x128_S8x128_S32x128_d0 x
    = f ((Rect.unit (s := S2048x512) o S32x128.size inb).emb x) := by
  subst h h0 h1 h2 h3
  obtain ⟨a, b, rfl⟩ : ∃ (a : Fin 32) (b : Fin 128), x = ix2 a b := ⟨x 0, x 1, ix_eta x⟩
  rw [cat_apply]
  split
  · rw [e0]; congr 1; funext i; apply Fin.ext
    fin_cases i <;> simp [Rect.emb_apply]
  split
  · rw [e1]; congr 1; funext i; apply Fin.ext
    fin_cases i <;> simp [Rect.emb_apply]; omega
  split
  · rw [e2]; congr 1; funext i; apply Fin.ext
    fin_cases i <;> simp [Rect.emb_apply]; omega
  · rw [e3]; congr 1; funext i; apply Fin.ext
    fin_cases i <;> simp [Rect.emb_apply]; omega

/-- An 8 by 128 tile of the codes before they are narrowed. -/
theorem q8 {o1 o8 : Fin 2 → ℕ} {inb1 inb8} (k c r : ℕ) (h1 : o1 = ![k, c])
    (h8 : o8 = ![128 * k + r, c]) (hr : r + 8 ≤ 128) (x : S8x128.Idx) :
    k0_pay14 (F := Ideal)
      (View.readAt (Elt Ideal) v21 (Rect.unit (s := S16x512) o1 S1x128.size inb1).toLoadRect X21)
      (View.readAt (Elt Ideal) v22 (Rect.unit (s := S16x512) o1 S1x128.size inb1).toLoadRect X22)
      (View.readAt (Elt Ideal) v23 (Rect.unit (s := S16x512) o1 S1x128.size inb1).toLoadRect X23)
      (View.readAt (Elt Ideal) v24 (Rect.unit (s := S16x512) o1 S1x128.size inb1).toLoadRect X24)
      (View.readAt (Elt Ideal) v3 (Rect.unit (s := S2048x512) o8 S8x128.size inb8).toLoadRect X3) x
    = gq32 (v3.read (Elt Ideal) X3) (v21.read (Elt Ideal) X21) (v22.read (Elt Ideal) X22) (v23.read (Elt Ideal) X23) (v24.read (Elt Ideal) X24)
      ((Rect.unit (s := S2048x512) o8 S8x128.size inb8).emb x) := by
  have e : (Rect.unit (s := S16x512) o1 S1x128.size inb1).emb (ix2 (0 : Fin 1) (x 1))
      = grp ((Rect.unit (s := S2048x512) o8 S8x128.size inb8).emb x) := by
    rw [ix_eta (m := 8) (n := 128) x]
    exact emb_grp (inb1 := inb1) (inb8 := inb8) k c r h1 h8 (x 0) (x 1) (by have : (x 0).val < 8 := (x 0).isLt; omega)
  unfold k0_pay14 k0_pay11 k0_pay10 k0_pay9 k0_pay8 k0_pay7 k0_pay6 k0_pay4
  pointwise
  unfold gq32 gk
  rw [← e]
  rfl

/-- How a row tile's start reads for trip `k`. -/
theorem off_row (k : ℕ) (hk : k < 16) (A B : BitVec 32) (hA : A.toNat ≤ 128) (hB : B.toNat ≤ 128) :
    (Scalar.indexCast (Scalar.addi (Scalar.addi (Scalar.muli (Scalar.addi 0#32 (Scalar.muli (Scf.iv 0#32 1#32 k) 1#32)) 128#32) A) B)).toNat
      = 128 * k + (A.toNat + B.toNat) := by
  simp only [Scalar.indexCast, Scalar.addi, Scalar.muli, IntOp.addi, IntOp.muli, Scf.iv, BitVec.toNat_add, BitVec.toNat_mul, BitVec.toNat_ofNat]
  omega

theorem off_row' (k : ℕ) (hk : k < 16) (A : BitVec 32) (hA : A.toNat ≤ 128) :
    (Scalar.indexCast (Scalar.addi (Scalar.muli (Scalar.addi 0#32 (Scalar.muli (Scf.iv 0#32 1#32 k) 1#32)) 128#32) A)).toNat
      = 128 * k + A.toNat := by
  simp only [Scalar.indexCast, Scalar.addi, Scalar.muli, IntOp.addi, IntOp.muli, Scf.iv, BitVec.toNat_add, BitVec.toNat_mul, BitVec.toNat_ofNat]
  omega

theorem off_grp (k : ℕ) (hk : k < 16) :
    (Scalar.indexCast (Scalar.addi 0#32 (Scalar.muli (Scf.iv 0#32 1#32 k) 1#32))).toNat = k := by
  simp only [Scalar.indexCast, Scalar.addi, Scalar.muli, IntOp.addi, IntOp.muli, Scf.iv, BitVec.toNat_add, BitVec.toNat_mul, BitVec.toNat_ofNat]
  omega

theorem offg0 (k : Fin k0_t1_loop.trips) : k0_off1 k = ![k.val, 0] := by
  have hk : k.val < 16 := Nat.lt_of_lt_of_le k.isLt k0_t1_abs.2.1
  have e := off_grp k.val hk
  unfold k0_off1
  exact congrArg (fun n => ![n, 0]) e

theorem offr0 (k : Fin k0_t1_loop.trips) (A B : BitVec 32) (hA : A.toNat ≤ 128) (hB : B.toNat ≤ 128) :
    k0_off2 k A B = ![128 * k.val + (A.toNat + B.toNat), 0] := by
  have hk : k.val < 16 := Nat.lt_of_lt_of_le k.isLt k0_t1_abs.2.1
  have e := off_row k.val hk A B hA hB
  unfold k0_off2
  exact congrArg (fun n => ![n, 0]) e

theorem offs0 (k : Fin k0_t1_loop.trips) (A : BitVec 32) (hA : A.toNat ≤ 128) :
    k0_off3 k A = ![128 * k.val + A.toNat, 0] := by
  have hk : k.val < 16 := Nat.lt_of_lt_of_le k.isLt k0_t1_abs.2.1
  have e := off_row' k.val hk A hA
  unfold k0_off3
  exact congrArg (fun n => ![n, 0]) e

theorem offg1 (k : Fin k0_t1_loop.trips) : k0_off4 k = ![k.val, 128] := by
  have hk : k.val < 16 := Nat.lt_of_lt_of_le k.isLt k0_t1_abs.2.1
  have e := off_grp k.val hk
  unfold k0_off4
  exact congrArg (fun n => ![n, 128]) e

theorem offr1 (k : Fin k0_t1_loop.trips) (A B : BitVec 32) (hA : A.toNat ≤ 128) (hB : B.toNat ≤ 128) :
    k0_off5 k A B = ![128 * k.val + (A.toNat + B.toNat), 128] := by
  have hk : k.val < 16 := Nat.lt_of_lt_of_le k.isLt k0_t1_abs.2.1
  have e := off_row k.val hk A B hA hB
  unfold k0_off5
  exact congrArg (fun n => ![n, 128]) e

theorem offs1 (k : Fin k0_t1_loop.trips) (A : BitVec 32) (hA : A.toNat ≤ 128) :
    k0_off6 k A = ![128 * k.val + A.toNat, 128] := by
  have hk : k.val < 16 := Nat.lt_of_lt_of_le k.isLt k0_t1_abs.2.1
  have e := off_row' k.val hk A hA
  unfold k0_off6
  exact congrArg (fun n => ![n, 128]) e

theorem offg2 (k : Fin k0_t1_loop.trips) : k0_off7 k = ![k.val, 256] := by
  have hk : k.val < 16 := Nat.lt_of_lt_of_le k.isLt k0_t1_abs.2.1
  have e := off_grp k.val hk
  unfold k0_off7
  exact congrArg (fun n => ![n, 256]) e

theorem offr2 (k : Fin k0_t1_loop.trips) (A B : BitVec 32) (hA : A.toNat ≤ 128) (hB : B.toNat ≤ 128) :
    k0_off8 k A B = ![128 * k.val + (A.toNat + B.toNat), 256] := by
  have hk : k.val < 16 := Nat.lt_of_lt_of_le k.isLt k0_t1_abs.2.1
  have e := off_row k.val hk A B hA hB
  unfold k0_off8
  exact congrArg (fun n => ![n, 256]) e

theorem offs2 (k : Fin k0_t1_loop.trips) (A : BitVec 32) (hA : A.toNat ≤ 128) :
    k0_off9 k A = ![128 * k.val + A.toNat, 256] := by
  have hk : k.val < 16 := Nat.lt_of_lt_of_le k.isLt k0_t1_abs.2.1
  have e := off_row' k.val hk A hA
  unfold k0_off9
  exact congrArg (fun n => ![n, 256]) e

theorem offg3 (k : Fin k0_t1_loop.trips) : k0_off10 k = ![k.val, 384] := by
  have hk : k.val < 16 := Nat.lt_of_lt_of_le k.isLt k0_t1_abs.2.1
  have e := off_grp k.val hk
  unfold k0_off10
  exact congrArg (fun n => ![n, 384]) e

theorem offr3 (k : Fin k0_t1_loop.trips) (A B : BitVec 32) (hA : A.toNat ≤ 128) (hB : B.toNat ≤ 128) :
    k0_off11 k A B = ![128 * k.val + (A.toNat + B.toNat), 384] := by
  have hk : k.val < 16 := Nat.lt_of_lt_of_le k.isLt k0_t1_abs.2.1
  have e := off_row k.val hk A B hA hB
  unfold k0_off11
  exact congrArg (fun n => ![n, 384]) e

theorem offs3 (k : Fin k0_t1_loop.trips) (A : BitVec 32) (hA : A.toNat ≤ 128) :
    k0_off12 k A = ![128 * k.val + A.toNat, 384] := by
  have hk : k.val < 16 := Nat.lt_of_lt_of_le k.isLt k0_t1_abs.2.1
  have e := off_row' k.val hk A hA
  unfold k0_off12
  exact congrArg (fun n => ![n, 384]) e

/-- A 32-row tile lies inside the array. -/
theorem tile_inb {o : Fin 2 → ℕ} {k c r : ℕ} (h : o = ![128 * k + r, c]) (hk : k < 16) (hr : r + 32 ≤ 128)
    (hc : c + 128 ≤ 512) (a : Fin 2) : o a + S32x128.size a ≤ S2048x512.size a := by
  subst h
  fin_cases a
  · show 128 * k + r + 32 ≤ 2048; omega
  · show c + 128 ≤ 512; omega

/-- Four tiles of codes, one below the other, narrowed. -/
theorem cat_q (f : S2048x512.Idx → BitVec 32) (p0 p1 p2 p3 : IVec S8x128 32)
    {o o0 o1 o2 o3 : Fin 2 → ℕ} {inb0 inb1 inb2 inb3} (k c r : ℕ) (hk : k < 16) (hr : r + 32 ≤ 128) (hc : c + 128 ≤ 512) (h : o = ![128 * k + r, c])
    (h0 : o0 = ![128 * k + (r + 0), c]) (h1 : o1 = ![128 * k + (r + 8), c])
    (h2 : o2 = ![128 * k + (r + 16), c]) (h3 : o3 = ![128 * k + (r + 24), c])
    (e0 : ∀ x : S8x128.Idx, p0 x = f ((Rect.unit (s := S2048x512) o0 S8x128.size inb0).emb x))
    (e1 : ∀ x : S8x128.Idx, p1 x = f ((Rect.unit (s := S2048x512) o1 S8x128.size inb1).emb x))
    (e2 : ∀ x : S8x128.Idx, p2 x = f ((Rect.unit (s := S2048x512) o2 S8x128.size inb2).emb x))
    (e3 : ∀ x : S8x128.Idx, p3 x = f ((Rect.unit (s := S2048x512) o3 S8x128.size inb3).emb x))
    (x : S32x128.Idx) :
    k0_pay3 (concatenate S32x128 0 [⟨S8x128, p0⟩, ⟨S8x128, p1⟩, ⟨S8x128, p2⟩, ⟨S8x128, p3⟩] concatenates_S8x128_S8x128_S8x128_S8x128_S32x128_d0) x
    = (f ((Rect.unit (s := S2048x512) o S32x128.size (tile_inb h hk hr hc)).emb x)).setWidth 8 := by
  exact congrArg (BitVec.setWidth 8) (cat_tile f p0 p1 p2 p3 k c r h h0 h1 h2 h3 e0 e1 e2 e3 x)

variable (𝒱 : Variants) (c : Dev nD) (bd : Option 𝒱.V) (i : grid0.Coords) (arg1 : Memref sig .tc .vmem S2048x512 .f32) (harg1 : arg1.IsWhole) (arg2 : Memref sig .tc .vmem S16x512 .f32) (harg2 : arg2.IsWhole) (arg3 : Memref sig .tc .vmem S16x512 .f32) (harg3 : arg3.IsWhole) (arg4 : Memref sig .tc .vmem S2048x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S3x4x136x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x512 .f32) (harg13 : arg13.IsWhole) (arg14 : Memref sig .tc .vmem S16x512 .f32) (harg14 : arg14.IsWhole) (arg15 : Memref sig .tc .vmem S16x512 .f32) (harg15 : arg15.IsWhole) (X_arg1 : BufTy.Contents (Elt Ideal) arg1.view.ty) (X_arg5 : BufTy.Contents (Elt Ideal) arg5.view.ty) (X_arg12 : BufTy.Contents (Elt Ideal) arg12.view.ty) (X_arg13 : BufTy.Contents (Elt Ideal) arg13.view.ty) (X_arg14 : BufTy.Contents (Elt Ideal) arg14.view.ty) (X_arg15 : BufTy.Contents (Elt Ideal) arg15.view.ty) (k : Fin k0_t1_loop.trips)

set_option maxHeartbeats 4000000

/-- Every code a trip stores. -/
theorem q_pieces : View.PiecesOf (Val := Elt Ideal) (e := .i8)
    (gq (arg1.view.read (Elt Ideal) X_arg1) (arg12.view.read (Elt Ideal) X_arg12) (arg13.view.read (Elt Ideal) X_arg13) (arg14.view.read (Elt Ideal) X_arg14) (arg15.view.read (Elt Ideal) X_arg15))
    (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg5 X_arg12 X_arg13 X_arg14 X_arg15 k).1 := by
  unfold tripL_k0_t1 trip_k0_t1
  dsimp only
  have hk : k.val < 16 := Nat.lt_of_lt_of_le k.isLt k0_t1_abs.2.1
  iterate 4 refine ⟨cat_q _ _ _ _ _ _ _ _ hk (by decide) (by decide) (offs3 k _ (by decide)) (offr3 k _ 0#32 (by decide) (by decide)) (offr3 k _ 8#32 (by decide) (by decide)) (offr3 k _ 16#32 (by decide) (by decide)) (offr3 k _ 24#32 (by decide) (by decide))
    (q8 arg1.view arg12.view arg13.view arg14.view arg15.view X_arg1 X_arg12 X_arg13 X_arg14 X_arg15 _ _ _ (offg3 k) (offr3 k _ _ (by decide) (by decide)) (by decide))
    (q8 arg1.view arg12.view arg13.view arg14.view arg15.view X_arg1 X_arg12 X_arg13 X_arg14 X_arg15 _ _ _ (offg3 k) (offr3 k _ _ (by decide) (by decide)) (by decide))
    (q8 arg1.view arg12.view arg13.view arg14.view arg15.view X_arg1 X_arg12 X_arg13 X_arg14 X_arg15 _ _ _ (offg3 k) (offr3 k _ _ (by decide) (by decide)) (by decide))
    (q8 arg1.view arg12.view arg13.view arg14.view arg15.view X_arg1 X_arg12 X_arg13 X_arg14 X_arg15 _ _ _ (offg3 k) (offr3 k _ _ (by decide) (by decide)) (by decide)), ?_⟩
  iterate 4 refine ⟨cat_q _ _ _ _ _ _ _ _ hk (by decide) (by decide) (offs2 k _ (by decide)) (offr2 k _ 0#32 (by decide) (by decide)) (offr2 k _ 8#32 (by decide) (by decide)) (offr2 k _ 16#32 (by decide) (by decide)) (offr2 k _ 24#32 (by decide) (by decide))
    (q8 arg1.view arg12.view arg13.view arg14.view arg15.view X_arg1 X_arg12 X_arg13 X_arg14 X_arg15 _ _ _ (offg2 k) (offr2 k _ _ (by decide) (by decide)) (by decide))
    (q8 arg1.view arg12.view arg13.view arg14.view arg15.view X_arg1 X_arg12 X_arg13 X_arg14 X_arg15 _ _ _ (offg2 k) (offr2 k _ _ (by decide) (by decide)) (by decide))
    (q8 arg1.view arg12.view arg13.view arg14.view arg15.view X_arg1 X_arg12 X_arg13 X_arg14 X_arg15 _ _ _ (offg2 k) (offr2 k _ _ (by decide) (by decide)) (by decide))
    (q8 arg1.view arg12.view arg13.view arg14.view arg15.view X_arg1 X_arg12 X_arg13 X_arg14 X_arg15 _ _ _ (offg2 k) (offr2 k _ _ (by decide) (by decide)) (by decide)), ?_⟩
  iterate 4 refine ⟨cat_q _ _ _ _ _ _ _ _ hk (by decide) (by decide) (offs1 k _ (by decide)) (offr1 k _ 0#32 (by decide) (by decide)) (offr1 k _ 8#32 (by decide) (by decide)) (offr1 k _ 16#32 (by decide) (by decide)) (offr1 k _ 24#32 (by decide) (by decide))
    (q8 arg1.view arg12.view arg13.view arg14.view arg15.view X_arg1 X_arg12 X_arg13 X_arg14 X_arg15 _ _ _ (offg1 k) (offr1 k _ _ (by decide) (by decide)) (by decide))
    (q8 arg1.view arg12.view arg13.view arg14.view arg15.view X_arg1 X_arg12 X_arg13 X_arg14 X_arg15 _ _ _ (offg1 k) (offr1 k _ _ (by decide) (by decide)) (by decide))
    (q8 arg1.view arg12.view arg13.view arg14.view arg15.view X_arg1 X_arg12 X_arg13 X_arg14 X_arg15 _ _ _ (offg1 k) (offr1 k _ _ (by decide) (by decide)) (by decide))
    (q8 arg1.view arg12.view arg13.view arg14.view arg15.view X_arg1 X_arg12 X_arg13 X_arg14 X_arg15 _ _ _ (offg1 k) (offr1 k _ _ (by decide) (by decide)) (by decide)), ?_⟩
  iterate 4 refine ⟨cat_q _ _ _ _ _ _ _ _ hk (by decide) (by decide) (offs0 k _ (by decide)) (offr0 k _ 0#32 (by decide) (by decide)) (offr0 k _ 8#32 (by decide) (by decide)) (offr0 k _ 16#32 (by decide) (by decide)) (offr0 k _ 24#32 (by decide) (by decide))
    (q8 arg1.view arg12.view arg13.view arg14.view arg15.view X_arg1 X_arg12 X_arg13 X_arg14 X_arg15 _ _ _ (offg0 k) (offr0 k _ _ (by decide) (by decide)) (by decide))
    (q8 arg1.view arg12.view arg13.view arg14.view arg15.view X_arg1 X_arg12 X_arg13 X_arg14 X_arg15 _ _ _ (offg0 k) (offr0 k _ _ (by decide) (by decide)) (by decide))
    (q8 arg1.view arg12.view arg13.view arg14.view arg15.view X_arg1 X_arg12 X_arg13 X_arg14 X_arg15 _ _ _ (offg0 k) (offr0 k _ _ (by decide) (by decide)) (by decide))
    (q8 arg1.view arg12.view arg13.view arg14.view arg15.view X_arg1 X_arg12 X_arg13 X_arg14 X_arg15 _ _ _ (offg0 k) (offr0 k _ _ (by decide) (by decide)) (by decide)), ?_⟩
  trivial

/-- Tiles of one array put before tiles of the same array. -/
theorem pieces_append {s : Shape} {e : EltTy} {Val : EltTy → Type} {G : s.Idx → Val e} :
    ∀ {L L' : List (View.Piece Val s e)}, View.PiecesOf G L → View.PiecesOf G L' → View.PiecesOf G (L ++ L')
  | [], _, _, h => h
  | _ :: _, _, h, h' => ⟨h.1, pieces_append h.2 h'⟩

/-- Every code the trips before the `n`-th store. -/
theorem pb_pieces (n : ℕ) (hn : n ≤ k0_t1_loop.trips) : View.PiecesOf (Val := Elt Ideal) (e := .i8)
    (gq (arg1.view.read (Elt Ideal) X_arg1) (arg12.view.read (Elt Ideal) X_arg12) (arg13.view.read (Elt Ideal) X_arg13) (arg14.view.read (Elt Ideal) X_arg14) (arg15.view.read (Elt Ideal) X_arg15))
    (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg5 X_arg12 X_arg13 X_arg14 X_arg15 n).1 := by
  induction n with
  | zero => rw [pb_k0_t1.eq_1]; trivial
  | succ n ih =>
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg5 X_arg12 X_arg13 X_arg14 X_arg15 ⟨n, hn⟩
    rw [show n + 1 = (⟨n, hn⟩ : Fin k0_t1_loop.trips).val + 1 from rfl, e]
    exact pieces_append (q_pieces 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 X_arg1 X_arg5 X_arg12 X_arg13 X_arg14 X_arg15 _) (ih (Nat.le_of_succ_le hn))

end Cert.Trip

end
-- ==== Proof.Slab.lean ====
module

public import proofs.«01_k».proof.Proof.Trip
public import proofs.«01_k».proof.Proof.Gen.KernelIdeal.Frame
public import Idealize.ShloMosaic.Lib.WholeRead

@[expose] public section

noncomputable section

/-! # The slabs

For every group the kernel first takes the largest and the smallest weight over the sixteen tiles of eight rows, and
stores the eight numbers that remain in each lane seventeen rows apart. `gS` is what the slabs then hold. -/

namespace Cert.Slab

open Idealize.ShloMosaic Cert.KernelIdeal Cert.KernelIdeal.Gen
open Idealize.ShloMosaic.TcCoe Idealize.ShloMosaic.Tactic Idealize.SL Idealize.SL.Sem

/-- An array's element by row and column numbers. -/
def at2 {m n : ℕ} (X : (⟨2, ![m, n]⟩ : Shape).Idx → EReal) (r c : ℕ) : EReal :=
  if h : r < m ∧ c < n then X (ix2 ⟨r, h.1⟩ ⟨c, h.2⟩) else 0

theorem at2_idx {m n : ℕ} (X : (⟨2, ![m, n]⟩ : Shape).Idx → EReal) (y : (⟨2, ![m, n]⟩ : Shape).Idx) (r c : ℕ)
    (hr : (y 0).val = r) (hc : (y 1).val = c) : X y = at2 X r c := by
  subst hr hc
  unfold at2
  rw [dif_pos ⟨(y 0).isLt, (y 1).isLt⟩]
  exact congrArg X (Trip.ix_eta y)

/-- Plane `p`, tile `c`, group `g`, sublane `s`, lane `l` of the slabs. -/
def gN (X : S2048x512.Idx → EReal) (p c g s l : ℕ) : EReal :=
  if p = 0 then Finset.univ.fold max ⊥ fun i : Fin 16 => at2 X (g * 128 + 8 * i.val + s) (c * 128 + l)
  else Finset.univ.fold min ⊤ fun i : Fin 16 => at2 X (g * 128 + 8 * i.val + s) (c * 128 + l)

/-- What the slabs hold. -/
def gS (X : S2048x512.Idx → EReal) (y : S3x4x136x128.Idx) : EReal :=
  gN X (y 0).val (y 1).val ((y 2).val % 17) ((y 2).val / 17) (y 3).val

theorem tree_max (f : Fin 16 → EReal) :
    max (max (max (max (f 0) (f 1)) (max (f 2) (f 3))) (max (max (f 4) (f 5)) (max (f 6) (f 7))))
      (max (max (max (f 8) (f 9)) (max (f 10) (f 11))) (max (max (f 12) (f 13)) (max (f 14) (f 15))))
      = Finset.univ.fold max ⊥ f := by
  apply eq_of_forall_ge_iff
  intro c
  rw [Finset.fold_max_le]
  simp only [max_le_iff, bot_le, true_and, Finset.mem_univ, true_implies, Fin.forall_fin_succ, IsEmpty.forall_iff, and_true]
  constructor <;> intro h <;> simpa [and_assoc] using h

theorem tree_min (f : Fin 16 → EReal) :
    min (min (min (min (f 0) (f 1)) (min (f 2) (f 3))) (min (min (f 4) (f 5)) (min (f 6) (f 7))))
      (min (min (min (f 8) (f 9)) (min (f 10) (f 11))) (min (min (f 12) (f 13)) (min (f 14) (f 15))))
      = Finset.univ.fold min ⊤ f := by
  apply eq_of_forall_le_iff
  intro c
  rw [Finset.le_fold_min]
  simp only [le_min_iff, le_top, true_and, Finset.mem_univ, true_implies, Fin.forall_fin_succ, IsEmpty.forall_iff, and_true]
  constructor <;> intro h <;> simpa [and_assoc] using h

/-- The largest of sixteen tiles, in the kernel's order. -/
abbrev maxT (R : Fin 16 → FVec Ideal S8x128 .f32) : FVec Ideal S8x128 .f32 :=
  maximumf (maximumf (maximumf (maximumf (R 0) (R 1)) (maximumf (R 2) (R 3))) (maximumf (maximumf (R 4) (R 5)) (maximumf (R 6) (R 7))))
    (maximumf (maximumf (maximumf (R 8) (R 9)) (maximumf (R 10) (R 11))) (maximumf (maximumf (R 12) (R 13)) (maximumf (R 14) (R 15))))

/-- The smallest of sixteen tiles, in the kernel's order. -/
abbrev minT (R : Fin 16 → FVec Ideal S8x128 .f32) : FVec Ideal S8x128 .f32 :=
  minimumf (minimumf (minimumf (minimumf (R 0) (R 1)) (minimumf (R 2) (R 3))) (minimumf (minimumf (R 4) (R 5)) (minimumf (R 6) (R 7))))
    (minimumf (minimumf (minimumf (R 8) (R 9)) (minimumf (R 10) (R 11))) (minimumf (minimumf (R 12) (R 13)) (minimumf (R 14) (R 15))))

theorem inbRow {g c : ℕ} (hg : g < 16) (hc : c < 4) (i : Fin 16) (a : Fin 2) :
    (![g * 128 + 8 * i.val, c * 128] : Fin 2 → ℕ) a + S8x128.size a ≤ S2048x512.size a := by
  fin_cases a
  · show g * 128 + 8 * i.val + 8 ≤ 2048; omega
  · show c * 128 + 128 ≤ 512; omega

variable (arg1 : Memref sig .tc .vmem S2048x512 .f32) (harg1 : arg1.IsWhole) (x0 : Vec Ideal S2048x512 .f32)

/-- The `i`-th tile of eight rows of group `g`. -/
abbrev rowT {g c : ℕ} (hg : g < 16) (hc : c < 4) (i : Fin 16) : FVec Ideal S8x128 .f32 :=
  View.readAt (Elt Ideal) arg1.view (Rect.unit (s := S2048x512) ![g * 128 + 8 * i.val, c * 128] S8x128.size (inbRow hg hc i)).toLoadRect (harg1.unread x0)

theorem rowT_apply {g c : ℕ} (hg : g < 16) (hc : c < 4) (i : Fin 16) (x : S8x128.Idx) :
    rowT arg1 harg1 x0 hg hc i x = at2 x0 (g * 128 + 8 * i.val + (x 0).val) (c * 128 + (x 1).val) := by
  refine (harg1.readAt_unread x0 (Rect.unit (s := S2048x512) ![g * 128 + 8 * i.val, c * 128] S8x128.size (inbRow hg hc i)).toLoadRect x).trans (at2_idx x0 _ _ _ ?_ ?_)
  · show g * 128 + 8 * i.val + 1 * (x 0).val = _; omega
  · show c * 128 + 1 * (x 1).val = _; omega

theorem maxT_apply {g c : ℕ} (hg : g < 16) (hc : c < 4) (x : S8x128.Idx) :
    maxT (rowT arg1 harg1 x0 hg hc) x = gN x0 0 c g (x 0).val (x 1).val := by
  rw [gN, if_pos rfl, ← tree_max]
  simp only [← rowT_apply arg1 harg1 x0 hg hc]
  rfl

theorem minT_apply {g c : ℕ} (hg : g < 16) (hc : c < 4) (x : S8x128.Idx) :
    minT (rowT arg1 harg1 x0 hg hc) x = gN x0 1 c g (x 0).val (x 1).val := by
  rw [gN, if_neg (by decide), ← tree_min]
  simp only [← rowT_apply arg1 harg1 x0 hg hc]
  rfl

/-- The first `k` stores of the slabs are tiles of one array, and store `k` covers the rows of its group. -/
def SlabOf (G : S3x4x136x128.Idx → EReal) : ℕ → List (View.Piece (Elt Ideal) S3x4x136x128 .f32) → Prop
  | 0, _ => True
  | _ + 1, [] => False
  | k + 1, q :: L => ((∀ x : q.1.shape.Idx, q.2 x = G (q.1.emb x)) ∧
      ∀ y : S3x4x136x128.Idx, (y 0).val = k % 2 → (y 1).val = k / 32 → (y 2).val % 17 = k / 2 % 16 → y ∈ q.1.set) ∧ SlabOf G k L

theorem slab_cons {p g c k : ℕ} (hp : p = k % 2) (hg : g = k / 2 % 16) (hc : c = k / 32) (hk : k < 128)
    {o0 : Fin 4 → ℕ} {o1 st : Fin 2 → ℕ} (e0 : o0 = ![p, c, 0, 0]) (e1 : o1 = ![g, 0]) (es : st = ![17, 1])
    {inb0 inb1 sp h1 h2 h3 h4 h5 hR}
    (T : S8x128.Idx → EReal) (hT : ∀ x : S8x128.Idx, T x = gN x0 p c g (x 0).val (x 1).val)
    {L : List (View.Piece (Elt Ideal) S3x4x136x128 .f32)} (hL : SlabOf (gS x0) k L) :
    SlabOf (gS x0) (k + 1) (⟨(Rect.unit (s := S3x4x136x128) o0 S1x1x136x128.size inb0).within
      ((({ off := o1, size := S8x128.size, stride := st, inb := inb1, stride_pos := sp } : Rect S136x128).consLift ![1, 136, 128] h1 h2).consLift ![1, 1, 136, 128] h3 h4) h5,
      Rect.payAlong (r := ({ off := o1, size := S8x128.size, stride := st, inb := inb1, stride_pos := sp } : Rect S136x128)) hR T⟩ :: L) := by
  subst e0 e1 es
  refine ⟨⟨fun x => ?_, fun y hy0 hy1 hy2 => ?_⟩, hL⟩
  · set R1 := ({ off := ![g, 0], size := S8x128.size, stride := ![17, 1], inb := inb1, stride_pos := sp } : Rect S136x128)
    set R2 := R1.consLift ![1, 136, 128] h1 h2
    have e : Shape.reshapeEquiv hR x = Shape.reshapeEquiv (R1.numel_consLift _ h1 h2) (Shape.reshapeEquiv (R2.numel_consLift ![1, 1, 136, 128] h3 h4) x) := by
      exact (Shape.reshapeEquiv_reshapeEquiv (R1.numel_consLift ![1, 136, 128] h1 h2) (R2.numel_consLift ![1, 1, 136, 128] h3 h4) x).symm
    have f0 : (x 2).val = (Shape.reshapeEquiv hR x 0).val := by
      rw [e]
      exact (R2.reshapeEquiv_consLift_succ ![1, 1, 136, 128] h3 h4 x 1).trans (R1.reshapeEquiv_consLift_succ ![1, 136, 128] h1 h2 _ 0)
    have f1 : (x 3).val = (Shape.reshapeEquiv hR x 1).val := by
      rw [e]
      exact (R2.reshapeEquiv_consLift_succ ![1, 1, 136, 128] h3 h4 x 2).trans (R1.reshapeEquiv_consLift_succ ![1, 136, 128] h1 h2 _ 1)
    have l0 : (x 0).val < 1 := (x 0).isLt
    have l1 : (x 1).val < 1 := (x 1).isLt
    have l2 : (x 2).val < 8 := (x 2).isLt
    refine (hT _).trans ?_
    rw [← f0, ← f1]
    show _ = gN x0 (p + 0 + 1 * (x 0).val) (c + 0 + 1 * (x 1).val) ((0 + g + 17 * (x 2).val) % 17) ((0 + g + 17 * (x 2).val) / 17) (0 + 0 + 1 * (x 3).val)
    congr 1 <;> omega
  · rw [LoadRect.mem_set]
    have l2 : (y 2).val < 136 := (y 2).isLt
    have l3 : (y 3).val < 128 := (y 3).isLt
    intro a
    fin_cases a
    · exact ⟨0, Nat.one_pos, by show (y 0).val = p + 0 + 1 * 0; omega⟩
    · exact ⟨0, Nat.one_pos, by show (y 1).val = c + 0 + 1 * 0; omega⟩
    · exact ⟨(y 2).val / 17, by show (y 2).val / 17 < 8; omega, by show (y 2).val = 0 + g + 17 * ((y 2).val / 17); omega⟩
    · exact ⟨(y 3).val, l3, by show (y 3).val = 0 + 0 + 1 * (y 3).val; omega⟩

/-- A store of the largest weights. -/
theorem slab_max {g c k : ℕ} (hp : 0 = k % 2) (hg : g = k / 2 % 16) (hc : c = k / 32) (hk : k < 128)
    {o0 : Fin 4 → ℕ} {o1 st : Fin 2 → ℕ} (e0 : o0 = ![0, c, 0, 0]) (e1 : o1 = ![g, 0]) (es : st = ![17, 1])
    {inb0 inb1 sp h1 h2 h3 h4 h5 hR}
    {T : S8x128.Idx → EReal} (hT : T = shapeCast S8x128 (maxT (rowT arg1 harg1 x0 (g := g) (c := c) (by omega) (by omega))) shapeCasts_S8x128_S8x128)
    {L : List (View.Piece (Elt Ideal) S3x4x136x128 .f32)} (hL : SlabOf (gS x0) k L) :
    SlabOf (gS x0) (k + 1) (⟨(Rect.unit (s := S3x4x136x128) o0 S1x1x136x128.size inb0).within
      ((({ off := o1, size := S8x128.size, stride := st, inb := inb1, stride_pos := sp } : Rect S136x128).consLift ![1, 136, 128] h1 h2).consLift ![1, 1, 136, 128] h3 h4) h5,
      Rect.payAlong (r := ({ off := o1, size := S8x128.size, stride := st, inb := inb1, stride_pos := sp } : Rect S136x128)) hR T⟩ :: L) :=
  slab_cons x0 hp hg hc hk e0 e1 es T (fun x => by
    rw [hT, shapeCast_self]; exact maxT_apply arg1 harg1 x0 _ _ x) hL

/-- A store of the smallest weights. -/
theorem slab_min {g c k : ℕ} (hp : 1 = k % 2) (hg : g = k / 2 % 16) (hc : c = k / 32) (hk : k < 128)
    {o0 : Fin 4 → ℕ} {o1 st : Fin 2 → ℕ} (e0 : o0 = ![1, c, 0, 0]) (e1 : o1 = ![g, 0]) (es : st = ![17, 1])
    {inb0 inb1 sp h1 h2 h3 h4 h5 hR}
    {T : S8x128.Idx → EReal} (hT : T = shapeCast S8x128 (minT (rowT arg1 harg1 x0 (g := g) (c := c) (by omega) (by omega))) shapeCasts_S8x128_S8x128)
    {L : List (View.Piece (Elt Ideal) S3x4x136x128 .f32)} (hL : SlabOf (gS x0) k L) :
    SlabOf (gS x0) (k + 1) (⟨(Rect.unit (s := S3x4x136x128) o0 S1x1x136x128.size inb0).within
      ((({ off := o1, size := S8x128.size, stride := st, inb := inb1, stride_pos := sp } : Rect S136x128).consLift ![1, 136, 128] h1 h2).consLift ![1, 1, 136, 128] h3 h4) h5,
      Rect.payAlong (r := ({ off := o1, size := S8x128.size, stride := st, inb := inb1, stride_pos := sp } : Rect S136x128)) hR T⟩ :: L) :=
  slab_cons x0 hp hg hc hk e0 e1 es T (fun x => by
    rw [hT, shapeCast_self]; exact minT_apply arg1 harg1 x0 _ _ x) hL

set_option maxRecDepth 20000
set_option maxHeartbeats 4000000

/-- All the stores of the slabs. -/
theorem slab_all (c : Dev nD) : SlabOf (gS x0) 128 (kernelRun0_A.sl.HS2_128 (F := Ideal) c arg1 harg1 x0) := by
  unfold kernelRun0_A.sl.HS2_128
  iterate 64
    refine slab_min arg1 harg1 x0 (by decide) (by decide) (by decide) (by decide) rfl rfl rfl (by exact rfl) ?_
    refine slab_max arg1 harg1 x0 (by decide) (by decide) (by decide) (by decide) rfl rfl rfl (by exact rfl) ?_
  trivial

theorem SlabOf.pieces {G : S3x4x136x128.Idx → EReal} : ∀ {k : ℕ} {L : List (View.Piece (Elt Ideal) S3x4x136x128 .f32)},
    SlabOf G k L → L.length = k → View.PiecesOf (Val := Elt Ideal) (e := .f32) G L
  | 0, [], _, _ => trivial
  | _ + 1, _ :: _, h, e => ⟨h.1.1, SlabOf.pieces h.2 (by simpa using e)⟩

theorem SlabOf.cover {G : S3x4x136x128.Idx → EReal} : ∀ {k : ℕ} {L : List (View.Piece (Elt Ideal) S3x4x136x128 .f32)},
    SlabOf G k L → ∀ j < k, ∀ y : S3x4x136x128.Idx, (y 0).val = j % 2 → (y 1).val = j / 32 → (y 2).val % 17 = j / 2 % 16 →
      ∃ q ∈ L, y ∈ q.1.set
  | 0, _, _, j, hj, _, _, _, _ => absurd hj (Nat.not_lt_zero j)
  | k + 1, q :: L, h, j, hj, y, h0, h1, h2 => by
    rcases Nat.lt_succ_iff_lt_or_eq.mp hj with hj' | rfl
    · obtain ⟨q', hq', hy⟩ := SlabOf.cover h.2 j hj' y h0 h1 h2
      exact ⟨q', List.mem_cons_of_mem _ hq', hy⟩
    · exact ⟨q, List.mem_cons_self, h.1.2 y h0 h1 h2⟩

/-- What the slabs hold at a row that belongs to a group. -/
theorem slab_canon (c : Dev nD) (y : S3x4x136x128.Idx) (h0 : (y 0).val < 2) (h2 : (y 2).val % 17 < 16) :
    View.canon (kernelRun0_A.sl.HS2_128 (F := Ideal) c arg1 harg1 x0) y = gS x0 y := by
  have hL := slab_all arg1 harg1 x0 c
  have l1 : (y 1).val < 4 := (y 1).isLt
  refine View.canon_apply_of_pieces (gS x0) _ (hL.pieces (by rfl)).mem y
    (hL.cover ((y 1).val * 32 + (y 2).val % 17 * 2 + (y 0).val) (by omega) y (by omega) (by omega) (by omega))

/-- A tile of eight rows read back from a slab. -/
theorem load_apply (c : Dev nD) (arg9 : Memref sig .tc .vmem S3x4x136x128 .f32) {p t o : ℕ} {o0 : Fin 4 → ℕ} {o1 : Fin 2 → ℕ}
    (e0 : o0 = ![p, t, 0, 0]) (e1 : o1 = ![o, 0]) (hp : p < 2) (s half : ℕ) (ho : o = 17 * s + 8 * half) (hh : half < 2)
    {inb0 inb1 h1 h2 h3 h4 h5}
    (hR : (Rect.unit (s := S136x128) o1 S8x128.size inb1).toLoadRect.shape.numel
      = ((Rect.unit (s := S3x4x136x128) o0 S1x1x136x128.size inb0).withinL
        (((Rect.unit (s := S136x128) o1 S8x128.size inb1).toLoadRect.consLift ![1, 136, 128] h1 h2).consLift ![1, 1, 136, 128] h3 h4) h5).shape.numel)
    (x : S8x128.Idx) :
    LoadRect.valAlong hR (arg9.view.readCov (kernelRun0_A.sl.HS2_128 (F := Ideal) c arg1 harg1 x0)
      ((Rect.unit (s := S3x4x136x128) o0 S1x1x136x128.size inb0).withinL
        (((Rect.unit (s := S136x128) o1 S8x128.size inb1).toLoadRect.consLift ![1, 136, 128] h1 h2).consLift ![1, 1, 136, 128] h3 h4) h5)) x
    = gN x0 p t (8 * half + (x 0).val) s (x 1).val := by
  subst e0 e1
  have l0 : (x 0).val < 8 := (x 0).isLt
  set lr := (Rect.unit (s := S136x128) ![o, 0] S8x128.size inb1).toLoadRect
  have e : Shape.reshapeEquiv hR x = Fin.cons ⟨0, Nat.one_pos⟩ (Fin.cons ⟨0, Nat.one_pos⟩ x) := by
    refine (Shape.reshapeEquiv_reshapeEquiv ((lr.consLift ![1, 136, 128] h1 h2).numel_consLift ![1, 1, 136, 128] h3 h4)
      (lr.numel_consLift ![1, 136, 128] h1 h2) x).symm.trans ?_
    exact (Shape.reshapeEquiv_cons_one _ _).trans (congrArg _ (Shape.reshapeEquiv_cons_one _ x))
  have em : (0 + o + 1 * (x 0).val) % 17 = 8 * half + (x 0).val := by
    rw [show 0 + o + 1 * (x 0).val = 17 * s + (8 * half + (x 0).val) by omega, Nat.mul_add_mod]; omega
  have ed : (0 + o + 1 * (x 0).val) / 17 = s := by omega
  rw [View.readCov_eq_canon']
  show View.canon _ _ = _
  rw [e, slab_canon]
  · show gN x0 (p + 0 + 1 * 0) (t + 0 + 1 * 0) ((0 + o + 1 * (x 0).val) % 17) ((0 + o + 1 * (x 0).val) / 17) (0 + 0 + 1 * (x 1).val) = _
    rw [em, ed]; congr 1 <;> omega
  · show p + 0 + 1 * 0 < 2; omega
  · show (0 + o + 1 * (x 0).val) % 17 < 16; rw [em]; omega

end Cert.Slab

end
-- ==== Proof.Tile.lean ====
module

public import proofs.«01_k».proof.Proof.Slab

@[expose] public section

noncomputable section

/-! # The step, the offset and the numbers the quantise loop takes

The kernel makes them in tiles of eight groups by 128 columns. Every tile is a tile of one array, written element by
element with `Col`. -/

namespace Cert.Tile

open Idealize.ShloMosaic Cert.KernelIdeal Cert.KernelIdeal.Gen Cert.Slab Cert.Quant
open Idealize.ShloMosaic.TcCoe Idealize.ShloMosaic.Tactic Idealize.SL Idealize.SL.Sem

/-- A column of a block. -/
def col (x0 : S2048x512.Idx → EReal) (x1 x2 : S16x512.Idx → EReal) (j : Fin 512) : Col where
  w r := x0 (ix2 r j)
  ga g := x1 (ix2 g j)
  be g := x2 (ix2 g j)

theorem tree_max8 (f : Fin 8 → EReal) :
    max (max (max (f 0) (f 1)) (max (f 2) (f 3))) (max (max (f 4) (f 5)) (max (f 6) (f 7))) = Finset.univ.fold max ⊥ f := by
  apply eq_of_forall_ge_iff
  intro c
  rw [Finset.fold_max_le]
  simp only [max_le_iff, bot_le, true_and, Finset.mem_univ, true_implies, Fin.forall_fin_succ, IsEmpty.forall_iff, and_true]
  constructor <;> intro h <;> simpa [and_assoc] using h

theorem tree_min8 (f : Fin 8 → EReal) :
    min (min (min (f 0) (f 1)) (min (f 2) (f 3))) (min (min (f 4) (f 5)) (min (f 6) (f 7))) = Finset.univ.fold min ⊤ f := by
  apply eq_of_forall_le_iff
  intro c
  rw [Finset.le_fold_min]
  simp only [le_min_iff, le_top, true_and, Finset.mem_univ, true_implies, Fin.forall_fin_succ, IsEmpty.forall_iff, and_true]
  constructor <;> intro h <;> simpa [and_assoc] using h

theorem at2_w (x0 : S2048x512.Idx → EReal) (x1 x2 : S16x512.Idx → EReal) (g : Fin 16) (i : Fin 16) (s : Fin 8) (j : Fin 512) :
    at2 x0 (g.val * 128 + 8 * i.val + s.val) j.val = (col x0 x1 x2 j).w (Col.row g ⟨8 * i.val + s.val, by omega⟩) := by
  refine (at2_idx x0 (ix2 (Col.row g ⟨8 * i.val + s.val, by omega⟩) j) _ _ ?_ rfl).symm
  show g.val * 128 + (8 * i.val + s.val) = _; omega

/-- The largest over the sublanes of the largest over the row tiles is the group's largest weight. -/
theorem fold_max (x0 : S2048x512.Idx → EReal) (x1 x2 : S16x512.Idx → EReal) (g : Fin 16) {t l : ℕ} (j : Fin 512) (hj : j.val = t * 128 + l) :
    (Finset.univ.fold max ⊥ fun s : Fin 8 => gN x0 0 t g.val s.val l) = (col x0 x1 x2 j).wmax g := by
  apply eq_of_forall_ge_iff
  intro c
  rw [Col.wmax_le_iff, Finset.fold_max_le]
  simp only [bot_le, true_and, Finset.mem_univ, true_implies]
  constructor
  · intro h k
    have h1 := h ⟨k.val % 8, Nat.mod_lt _ (by decide)⟩
    rw [gN, if_pos rfl, Finset.fold_max_le] at h1
    have h2 := h1.2 ⟨k.val / 8, by omega⟩ (Finset.mem_univ _)
    rw [← hj, at2_w x0 x1 x2 g ⟨k.val / 8, by omega⟩ ⟨k.val % 8, Nat.mod_lt _ (by decide)⟩ j] at h2
    have e : (⟨8 * (k.val / 8) + k.val % 8, by omega⟩ : Fin 128) = k := Fin.ext (by show 8 * (k.val / 8) + k.val % 8 = k.val; omega)
    rw [← e]; exact h2
  · intro h s
    rw [gN, if_pos rfl, Finset.fold_max_le]
    refine ⟨bot_le, fun i _ => ?_⟩
    rw [← hj, at2_w x0 x1 x2 g i s j]
    exact h _

/-- The smallest over the sublanes of the smallest over the row tiles is the group's smallest weight. -/
theorem fold_min (x0 : S2048x512.Idx → EReal) (x1 x2 : S16x512.Idx → EReal) (g : Fin 16) {t l : ℕ} (j : Fin 512) (hj : j.val = t * 128 + l) :
    (Finset.univ.fold min ⊤ fun s : Fin 8 => gN x0 1 t g.val s.val l) = (col x0 x1 x2 j).wmin g := by
  apply eq_of_forall_le_iff
  intro c
  rw [Col.le_wmin_iff, Finset.le_fold_min]
  simp only [le_top, true_and, Finset.mem_univ, true_implies]
  constructor
  · intro h k
    have h1 := h ⟨k.val % 8, Nat.mod_lt _ (by decide)⟩
    rw [gN, if_neg (by decide), Finset.le_fold_min] at h1
    have h2 := h1.2 ⟨k.val / 8, by omega⟩ (Finset.mem_univ _)
    rw [← hj, at2_w x0 x1 x2 g ⟨k.val / 8, by omega⟩ ⟨k.val % 8, Nat.mod_lt _ (by decide)⟩ j] at h2
    have e : (⟨8 * (k.val / 8) + k.val % 8, by omega⟩ : Fin 128) = k := Fin.ext (by show 8 * (k.val / 8) + k.val % 8 = k.val; omega)
    rw [← e]; exact h2
  · intro h s
    rw [gN, if_neg (by decide), Finset.le_fold_min]
    refine ⟨le_top, fun i _ => ?_⟩
    rw [← hj, at2_w x0 x1 x2 g i s j]
    exact h _

/-- The group and the column of an element of a tile. -/
abbrev gi {half : ℕ} (hh : half < 2) (x : S8x128.Idx) : Fin 16 :=
  ⟨8 * half + (x 0).val, by have : (x 0).val < 8 := (x 0).isLt; omega⟩
abbrev ji {t : ℕ} (ht : t < 4) (x : S8x128.Idx) : Fin 512 :=
  ⟨128 * t + (x 1).val, by have : (x 1).val < 128 := (x 1).isLt; omega⟩

theorem ofBits_one : Ideal.ofBits .f32 1065353216#32 = (1 : EReal) := by
  exact Ideal.ofBits_one_f32

theorem ofBits_zero : Ideal.ofBits .f32 0#32 = (0 : EReal) := by
  simp [Ideal.ofBits, Ideal.ieee, -EReal.coe_mul]

theorem inbSlab {p t : ℕ} (hp : p < 2) (ht : t < 4) (a : Fin 4) :
    (![p, t, 0, 0] : Fin 4 → ℕ) a + S1x1x136x128.size a ≤ S3x4x136x128.size a := by
  fin_cases a
  · show p + 1 ≤ 3; omega
  · show t + 1 ≤ 4; omega
  · exact Nat.le_refl 136
  · exact Nat.le_refl 128

theorem inbLoad {half : ℕ} (hh : half < 2) (s : Fin 8) (a : Fin 2) :
    (![17 * s.val + 8 * half, 0] : Fin 2 → ℕ) a + S8x128.size a ≤ S136x128.size a := by
  fin_cases a
  · show 17 * s.val + 8 * half + 8 ≤ 136; omega
  · exact Nat.le_refl 128

theorem inbPar {t half : ℕ} (ht : t < 4) (hh : half < 2) (a : Fin 2) :
    (![8 * half, 128 * t] : Fin 2 → ℕ) a + S8x128.size a ≤ S16x512.size a := by
  fin_cases a
  · show 8 * half + 8 ≤ 16; omega
  · show 128 * t + 128 ≤ 512; omega

theorem lift3 : ∀ i : Fin 2, (![1, 136, 128] : Fin 3 → ℕ) i.succ = (![136, 128] : Fin 2 → ℕ) i := by decide
theorem lift4 : ∀ i : Fin 3, (![1, 1, 136, 128] : Fin 4 → ℕ) i.succ = (![1, 136, 128] : Fin 3 → ℕ) i := by decide

variable (c : Dev nD) (arg1 : Memref sig .tc .vmem S2048x512 .f32) (harg1 : arg1.IsWhole) (arg2 : Memref sig .tc .vmem S16x512 .f32) (harg2 : arg2.IsWhole) (arg3 : Memref sig .tc .vmem S16x512 .f32) (harg3 : arg3.IsWhole)
  (arg9 : Memref sig .tc .vmem S3x4x136x128 .f32) (x0 : Vec Ideal S2048x512 .f32) (x1 : Vec Ideal S16x512 .f32) (x2 : Vec Ideal S16x512 .f32)

/-- Eight groups' rows of sublane `s`, read back from a slab. -/
abbrev ldT {p t half : ℕ} (hp : p < 2) (ht : t < 4) (hh : half < 2) (s : Fin 8) : FVec Ideal S8x128 .f32 :=
  LoadRect.valAlong
    (lr := (Rect.unit (s := S136x128) ![17 * s.val + 8 * half, 0] S8x128.size (inbLoad hh s)).toLoadRect)
    (LR := (Rect.unit (s := S3x4x136x128) ![p, t, 0, 0] S1x1x136x128.size (inbSlab hp ht)).withinL
      (((Rect.unit (s := S136x128) ![17 * s.val + 8 * half, 0] S8x128.size (inbLoad hh s)).toLoadRect.consLift ![1, 136, 128] rfl lift3).consLift ![1, 1, 136, 128] rfl lift4)
      (fun _ => rfl))
    ((LoadRect.numel_consLift _ _ rfl lift3).trans (LoadRect.numel_consLift _ _ rfl lift4))
    (arg9.view.readCov (kernelRun0_A.sl.HS2_128 (F := Ideal) c arg1 harg1 x0)
      ((Rect.unit (s := S3x4x136x128) ![p, t, 0, 0] S1x1x136x128.size (inbSlab hp ht)).withinL
        (((Rect.unit (s := S136x128) ![17 * s.val + 8 * half, 0] S8x128.size (inbLoad hh s)).toLoadRect.consLift ![1, 136, 128] rfl lift3).consLift ![1, 1, 136, 128] rfl lift4)
        (fun _ => rfl)))

theorem ldT_apply {p t half : ℕ} (hp : p < 2) (ht : t < 4) (hh : half < 2) (s : Fin 8) (x : S8x128.Idx) :
    ldT c arg1 harg1 arg9 x0 hp ht hh s x = gN x0 p t (8 * half + (x 0).val) s.val (x 1).val :=
  load_apply arg1 harg1 x0 c arg9 rfl rfl hp s.val half rfl hh _ x

/-- The largest of eight tiles, in the kernel's order. -/
abbrev max8 (R : Fin 8 → FVec Ideal S8x128 .f32) : FVec Ideal S8x128 .f32 :=
  maximumf (maximumf (maximumf (R 0) (R 1)) (maximumf (R 2) (R 3))) (maximumf (maximumf (R 4) (R 5)) (maximumf (R 6) (R 7)))

/-- The smallest of eight tiles, in the kernel's order. -/
abbrev min8 (R : Fin 8 → FVec Ideal S8x128 .f32) : FVec Ideal S8x128 .f32 :=
  minimumf (minimumf (minimumf (R 0) (R 1)) (minimumf (R 2) (R 3))) (minimumf (minimumf (R 4) (R 5)) (minimumf (R 6) (R 7)))

section
variable {t half : ℕ} (ht : t < 4) (hh : half < 2)

/-- A tile of the gammas, and of the betas. -/
abbrev gaT : FVec Ideal S8x128 .f32 :=
  View.readAt (Elt Ideal) arg2.view (Rect.unit (s := S16x512) ![8 * half, 128 * t] S8x128.size (inbPar ht hh)).toLoadRect (harg2.unread x1)
abbrev beT : FVec Ideal S8x128 .f32 :=
  View.readAt (Elt Ideal) arg3.view (Rect.unit (s := S16x512) ![8 * half, 128 * t] S8x128.size (inbPar ht hh)).toLoadRect (harg3.unread x2)

/-- The sigmoid, as the kernel takes it. -/
abbrev sigT (v : FVec Ideal S8x128 .f32) : FVec Ideal S8x128 .f32 :=
  divf (broadcast S8x128 (FloatOps.ofBits .f32 1065353216#32)) (addf (broadcast S8x128 (FloatOps.ofBits .f32 1065353216#32))
    (exp (subf (broadcast S8x128 (FloatOps.ofBits .f32 0#32)) v)))

abbrev hiT : FVec Ideal S8x128 .f32 := mulf (sigT (gaT arg2 harg2 x1 ht hh)) (max8 (ldT c arg1 harg1 arg9 x0 (p := 0) (by decide) ht hh))
abbrev loT : FVec Ideal S8x128 .f32 := mulf (sigT (beT arg3 harg3 x2 ht hh)) (min8 (ldT c arg1 harg1 arg9 x0 (p := 1) (by decide) ht hh))

/-- The step. -/
abbrev hT : FVec Ideal S8x128 .f32 :=
  divf (subf (hiT c arg1 harg1 arg2 harg2 arg9 x0 x1 ht hh) (loT c arg1 harg1 arg3 harg3 arg9 x0 x2 ht hh)) (broadcast S8x128 (FloatOps.ofBits .f32 1097859072#32))

/-- The offset. -/
abbrev zT : FVec Ideal S8x128 .f32 :=
  subf (broadcast S8x128 (FloatOps.ofBits .f32 0#32)) (roundeven (divf (loT c arg1 harg1 arg3 harg3 arg9 x0 x2 ht hh)
    (hT c arg1 harg1 arg2 harg2 arg3 harg3 arg9 x0 x1 x2 ht hh)))

theorem sig_apply (v : FVec Ideal S8x128 .f32) (x : S8x128.Idx) : sigT v x = Ideal.logistic (v x) := by
  show Ideal.div (Ideal.ofBits .f32 1065353216#32) (Ideal.ofBits .f32 1065353216#32 + Ideal.exp (Ideal.ofBits .f32 0#32 - v x)) = _
  rw [ofBits_one, ofBits_zero, zero_sub]
  rfl

theorem hiT_apply (x : S8x128.Idx) : hiT c arg1 harg1 arg2 harg2 arg9 x0 x1 ht hh x
    = (col x0 x1 x2 (ji ht x)).sg (gi hh x) * (col x0 x1 x2 (ji ht x)).wmax (gi hh x) := by
  refine (mulf_apply ..).trans ?_
  congr 1
  · refine (sig_apply _ x).trans (congrArg Ideal.logistic ((harg2.readAt_unread x1 (Rect.unit (s := S16x512) ![8 * half, 128 * t] S8x128.size (inbPar ht hh)).toLoadRect x).trans (congrArg x1 ?_)))
    funext a; apply Fin.ext; fin_cases a
    · show 8 * half + 1 * (x 0).val = 8 * half + (x 0).val; omega
    · show 128 * t + 1 * (x 1).val = 128 * t + (x 1).val; omega
  · rw [← fold_max x0 x1 x2 (gi hh x) (ji ht x) (t := t) (l := (x 1).val) (by show 128 * t + (x 1).val = _; omega), ← tree_max8]
    simp only [← ldT_apply c arg1 harg1 arg9 x0 (p := 0) (by decide) ht hh]
    rfl

theorem loT_apply (x : S8x128.Idx) : loT c arg1 harg1 arg3 harg3 arg9 x0 x2 ht hh x
    = (col x0 x1 x2 (ji ht x)).sb (gi hh x) * (col x0 x1 x2 (ji ht x)).wmin (gi hh x) := by
  refine (mulf_apply ..).trans ?_
  congr 1
  · refine (sig_apply _ x).trans (congrArg Ideal.logistic ((harg3.readAt_unread x2 (Rect.unit (s := S16x512) ![8 * half, 128 * t] S8x128.size (inbPar ht hh)).toLoadRect x).trans (congrArg x2 ?_)))
    funext a; apply Fin.ext; fin_cases a
    · show 8 * half + 1 * (x 0).val = 8 * half + (x 0).val; omega
    · show 128 * t + 1 * (x 1).val = 128 * t + (x 1).val; omega
  · rw [← fold_min x0 x1 x2 (gi hh x) (ji ht x) (t := t) (l := (x 1).val) (by show 128 * t + (x 1).val = _; omega), ← tree_min8]
    simp only [← ldT_apply c arg1 harg1 arg9 x0 (p := 1) (by decide) ht hh]
    rfl

theorem hT_apply (x : S8x128.Idx) : hT c arg1 harg1 arg2 harg2 arg3 harg3 arg9 x0 x1 x2 ht hh x = (col x0 x1 x2 (ji ht x)).h (gi hh x) := by
  rw [Col.h, step, ← hiT_apply c arg1 harg1 arg2 harg2 arg9 x0 x1 x2 ht hh, ← loT_apply c arg1 harg1 arg3 harg3 arg9 x0 x1 x2 ht hh, ← ofBits_fifteen]
  rfl

theorem zT_apply (x : S8x128.Idx) : zT c arg1 harg1 arg2 harg2 arg3 harg3 arg9 x0 x1 x2 ht hh x = (col x0 x1 x2 (ji ht x)).z (gi hh x) := by
  rw [Col.z, offset, show step _ _ = (col x0 x1 x2 (ji ht x)).h (gi hh x) from rfl, ← hT_apply c arg1 harg1 arg2 harg2 arg3 harg3 arg9 x0 x1 x2 ht hh,
    ← loT_apply c arg1 harg1 arg3 harg3 arg9 x0 x1 x2 ht hh, ← ofBits_zero]
  rfl

end

/-- The step and the offset of a block, and what the loop takes: the reciprocal of the step, the two bounds, and the
offset with the rounding constant added. -/
def gH (y : S16x512.Idx) : EReal := (col x0 x1 x2 (y 1)).h (y 0)
def gZ (y : S16x512.Idx) : EReal := (col x0 x1 x2 (y 1)).z (y 0)
def gRh (y : S16x512.Idx) : EReal := Ideal.div 1 (gH x0 x1 x2 y)
def gLo (y : S16x512.Idx) : EReal := 0 - gZ x0 x1 x2 y
def gHi (y : S16x512.Idx) : EReal := ((15 : ℝ) : EReal) - gZ x0 x1 x2 y
def gZm (y : S16x512.Idx) : EReal := gZ x0 x1 x2 y + ((12582912 : ℝ) : EReal)

theorem emb_tile {t half : ℕ} (ht : t < 4) (hh : half < 2) {o : Fin 2 → ℕ} (eo : o = ![8 * half, 128 * t]) {inb} (x : S8x128.Idx) :
    (Rect.unit (s := S16x512) o S8x128.size inb).emb x = ix2 (gi hh x) (ji ht x) := by
  subst eo
  funext a; apply Fin.ext; fin_cases a
  · show 8 * half + 1 * (x 0).val = 8 * half + (x 0).val; omega
  · show 128 * t + 1 * (x 1).val = 128 * t + (x 1).val; omega

/-- The eight tiles of an array, in the order of the stores from the last to the first. -/
theorem pieces8 (G : S16x512.Idx → EReal) (F : ∀ {t half : ℕ} (_ : t < 4) (_ : half < 2), FVec Ideal S8x128 .f32)
    (hF : ∀ {t half : ℕ} (ht : t < 4) (hh : half < 2) (x : S8x128.Idx), F ht hh x = G (ix2 (gi hh x) (ji ht x)))
    {i0 i1 i2 i3 i4 i5 i6 i7} {T0 T1 T2 T3 T4 T5 T6 T7 : FVec Ideal S8x128 .f32}
    (e7 : T7 = F (t := 3) (half := 1) (by decide) (by decide)) (e6 : T6 = F (t := 3) (half := 0) (by decide) (by decide))
    (e5 : T5 = F (t := 2) (half := 1) (by decide) (by decide)) (e4 : T4 = F (t := 2) (half := 0) (by decide) (by decide))
    (e3 : T3 = F (t := 1) (half := 1) (by decide) (by decide)) (e2 : T2 = F (t := 1) (half := 0) (by decide) (by decide))
    (e1 : T1 = F (t := 0) (half := 1) (by decide) (by decide)) (e0 : T0 = F (t := 0) (half := 0) (by decide) (by decide)) :
    View.PiecesOf (Val := Elt Ideal) (e := .f32) G
      [⟨Rect.unit (s := S16x512) ![8, 384] S8x128.size i7, T7⟩, ⟨Rect.unit (s := S16x512) ![0, 384] S8x128.size i6, T6⟩,
       ⟨Rect.unit (s := S16x512) ![8, 256] S8x128.size i5, T5⟩, ⟨Rect.unit (s := S16x512) ![0, 256] S8x128.size i4, T4⟩,
       ⟨Rect.unit (s := S16x512) ![8, 128] S8x128.size i3, T3⟩, ⟨Rect.unit (s := S16x512) ![0, 128] S8x128.size i2, T2⟩,
       ⟨Rect.unit (s := S16x512) ![8, 0] S8x128.size i1, T1⟩, ⟨Rect.unit (s := S16x512) ![0, 0] S8x128.size i0, T0⟩] := by
  subst e0 e1 e2 e3 e4 e5 e6 e7
  have key {t half : ℕ} (ht : t < 4) (hh : half < 2) {o : Fin 2 → ℕ} (eo : o = ![8 * half, 128 * t]) (inb) (x : S8x128.Idx) :
      F ht hh x = G ((Rect.unit (s := S16x512) o S8x128.size inb).emb x) := by rw [emb_tile ht hh eo]; exact hF ht hh x
  exact ⟨key _ _ rfl i7, key _ _ rfl i6, key _ _ rfl i5, key _ _ rfl i4, key _ _ rfl i3, key _ _ rfl i2, key _ _ rfl i1, key _ _ rfl i0, trivial⟩

/-- The eight tiles cover the array. -/
theorem cover8 {i0 i1 i2 i3 i4 i5 i6 i7} {T0 T1 T2 T3 T4 T5 T6 T7 : FVec Ideal S8x128 .f32} (y : S16x512.Idx) :
    ∃ q ∈ ([⟨Rect.unit (s := S16x512) ![8, 384] S8x128.size i7, T7⟩, ⟨Rect.unit (s := S16x512) ![0, 384] S8x128.size i6, T6⟩,
       ⟨Rect.unit (s := S16x512) ![8, 256] S8x128.size i5, T5⟩, ⟨Rect.unit (s := S16x512) ![0, 256] S8x128.size i4, T4⟩,
       ⟨Rect.unit (s := S16x512) ![8, 128] S8x128.size i3, T3⟩, ⟨Rect.unit (s := S16x512) ![0, 128] S8x128.size i2, T2⟩,
       ⟨Rect.unit (s := S16x512) ![8, 0] S8x128.size i1, T1⟩, ⟨Rect.unit (s := S16x512) ![0, 0] S8x128.size i0, T0⟩] :
       List (View.Piece (Elt Ideal) S16x512 .f32)), y ∈ q.1.set := by
  have l0 : (y 0).val < 16 := (y 0).isLt
  have l1 : (y 1).val < 512 := (y 1).isLt
  have key {a b : ℕ} (inb) (h0 : a ≤ (y 0).val) (h1 : (y 0).val < a + 8) (h2 : b ≤ (y 1).val) (h3 : (y 1).val < b + 128) :
      y ∈ (Rect.unit (s := S16x512) ![a, b] S8x128.size inb).set := by
    rw [Rect.mem_set_unit]; intro i; fin_cases i
    · exact ⟨h0, h1⟩
    · exact ⟨h2, h3⟩
  by_cases ha : (y 0).val < 8 <;> by_cases hb : (y 1).val < 256
  · by_cases hc : (y 1).val < 128
    · exact ⟨_, .tail _ (.tail _ (.tail _ (.tail _ (.tail _ (.tail _ (.tail _ (List.Mem.head _))))))), key i0 (by omega) (by omega) (by omega) (by omega)⟩
    · exact ⟨_, .tail _ (.tail _ (.tail _ (.tail _ (.tail _ (List.Mem.head _))))), key i2 (by omega) (by omega) (by omega) (by omega)⟩
  · by_cases hc : (y 1).val < 384
    · exact ⟨_, .tail _ (.tail _ (.tail _ (List.Mem.head _))), key i4 (by omega) (by omega) (by omega) (by omega)⟩
    · exact ⟨_, .tail _ (List.Mem.head _), key i6 (by omega) (by omega) (by omega) (by omega)⟩
  · by_cases hc : (y 1).val < 128
    · exact ⟨_, .tail _ (.tail _ (.tail _ (.tail _ (.tail _ (.tail _ (List.Mem.head _)))))), key i1 (by omega) (by omega) (by omega) (by omega)⟩
    · exact ⟨_, .tail _ (.tail _ (.tail _ (.tail _ (List.Mem.head _)))), key i3 (by omega) (by omega) (by omega) (by omega)⟩
  · by_cases hc : (y 1).val < 384
    · exact ⟨_, .tail _ (.tail _ (List.Mem.head _)), key i5 (by omega) (by omega) (by omega) (by omega)⟩
    · exact ⟨_, List.Mem.head _, key i7 (by omega) (by omega) (by omega) (by omega)⟩

/-- So the eight stores leave the array. -/
theorem canon8 (G : S16x512.Idx → EReal) (F : ∀ {t half : ℕ} (_ : t < 4) (_ : half < 2), FVec Ideal S8x128 .f32)
    (hF : ∀ {t half : ℕ} (ht : t < 4) (hh : half < 2) (x : S8x128.Idx), F ht hh x = G (ix2 (gi hh x) (ji ht x)))
    {i0 i1 i2 i3 i4 i5 i6 i7} {T0 T1 T2 T3 T4 T5 T6 T7 : FVec Ideal S8x128 .f32}
    (e7 : T7 = F (t := 3) (half := 1) (by decide) (by decide)) (e6 : T6 = F (t := 3) (half := 0) (by decide) (by decide))
    (e5 : T5 = F (t := 2) (half := 1) (by decide) (by decide)) (e4 : T4 = F (t := 2) (half := 0) (by decide) (by decide))
    (e3 : T3 = F (t := 1) (half := 1) (by decide) (by decide)) (e2 : T2 = F (t := 1) (half := 0) (by decide) (by decide))
    (e1 : T1 = F (t := 0) (half := 1) (by decide) (by decide)) (e0 : T0 = F (t := 0) (half := 0) (by decide) (by decide)) :
    View.canon (Val := Elt Ideal) (e := .f32)
      [⟨Rect.unit (s := S16x512) ![8, 384] S8x128.size i7, T7⟩, ⟨Rect.unit (s := S16x512) ![0, 384] S8x128.size i6, T6⟩,
       ⟨Rect.unit (s := S16x512) ![8, 256] S8x128.size i5, T5⟩, ⟨Rect.unit (s := S16x512) ![0, 256] S8x128.size i4, T4⟩,
       ⟨Rect.unit (s := S16x512) ![8, 128] S8x128.size i3, T3⟩, ⟨Rect.unit (s := S16x512) ![0, 128] S8x128.size i2, T2⟩,
       ⟨Rect.unit (s := S16x512) ![8, 0] S8x128.size i1, T1⟩, ⟨Rect.unit (s := S16x512) ![0, 0] S8x128.size i0, T0⟩] = G :=
  funext fun y => View.canon_apply_of_pieces G _ (pieces8 G F hF e7 e6 e5 e4 e3 e2 e1 e0).mem y (cover8 y)

set_option maxRecDepth 20000
set_option maxHeartbeats 4000000

theorem h_canon : View.canon (kernelRun0_A.sl.H4_8 (F := Ideal) c arg1 harg1 arg2 harg2 arg3 harg3 arg9 x0 x1 x2) = gH x0 x1 x2 := by
  unfold kernelRun0_A.sl.H4_8
  exact canon8 (gH x0 x1 x2) (fun ht hh => hT c arg1 harg1 arg2 harg2 arg3 harg3 arg9 x0 x1 x2 ht hh)
    (fun ht hh x => hT_apply c arg1 harg1 arg2 harg2 arg3 harg3 arg9 x0 x1 x2 ht hh x) rfl rfl rfl rfl rfl rfl rfl rfl

theorem z_canon : View.canon (kernelRun0_A.sl.H5_8 (F := Ideal) c arg1 harg1 arg2 harg2 arg3 harg3 arg9 x0 x1 x2) = gZ x0 x1 x2 := by
  unfold kernelRun0_A.sl.H5_8
  exact canon8 (gZ x0 x1 x2) (fun ht hh => zT c arg1 harg1 arg2 harg2 arg3 harg3 arg9 x0 x1 x2 ht hh)
    (fun ht hh x => zT_apply c arg1 harg1 arg2 harg2 arg3 harg3 arg9 x0 x1 x2 ht hh x) rfl rfl rfl rfl rfl rfl rfl rfl

theorem rh_canon : View.canon (kernelRun0_A.sl.HS5_8 (F := Ideal) c arg1 harg1 arg2 harg2 arg3 harg3 arg9 x0 x1 x2) = gRh x0 x1 x2 := by
  unfold kernelRun0_A.sl.HS5_8
  exact canon8 (gRh x0 x1 x2) (fun ht hh => shapeCast S8x128 (divf (broadcast S8x128 (FloatOps.ofBits .f32 1065353216#32)) (hT c arg1 harg1 arg2 harg2 arg3 harg3 arg9 x0 x1 x2 ht hh)) shapeCasts_S8x128_S8x128)
    (fun ht hh x => by
      rw [shapeCast_self, gRh, gH, ← ofBits_one]
      exact congrArg (Ideal.div _) (hT_apply c arg1 harg1 arg2 harg2 arg3 harg3 arg9 x0 x1 x2 ht hh x)) rfl rfl rfl rfl rfl rfl rfl rfl

theorem lo_canon : View.canon (kernelRun0_A.sl.HS6_8 (F := Ideal) c arg1 harg1 arg2 harg2 arg3 harg3 arg9 x0 x1 x2) = gLo x0 x1 x2 := by
  unfold kernelRun0_A.sl.HS6_8
  exact canon8 (gLo x0 x1 x2) (fun ht hh => shapeCast S8x128 (subf (broadcast S8x128 (FloatOps.ofBits .f32 0#32)) (zT c arg1 harg1 arg2 harg2 arg3 harg3 arg9 x0 x1 x2 ht hh)) shapeCasts_S8x128_S8x128)
    (fun ht hh x => by
      rw [shapeCast_self, gLo, gZ, ← ofBits_zero]
      exact congrArg (_ - ·) (zT_apply c arg1 harg1 arg2 harg2 arg3 harg3 arg9 x0 x1 x2 ht hh x)) rfl rfl rfl rfl rfl rfl rfl rfl

theorem hi_canon : View.canon (kernelRun0_A.sl.HS7_8 (F := Ideal) c arg1 harg1 arg2 harg2 arg3 harg3 arg9 x0 x1 x2) = gHi x0 x1 x2 := by
  unfold kernelRun0_A.sl.HS7_8
  exact canon8 (gHi x0 x1 x2) (fun ht hh => shapeCast S8x128 (subf (broadcast S8x128 (FloatOps.ofBits .f32 1097859072#32)) (zT c arg1 harg1 arg2 harg2 arg3 harg3 arg9 x0 x1 x2 ht hh)) shapeCasts_S8x128_S8x128)
    (fun ht hh x => by
      rw [shapeCast_self, gHi, gZ, ← ofBits_fifteen]
      exact congrArg (_ - ·) (zT_apply c arg1 harg1 arg2 harg2 arg3 harg3 arg9 x0 x1 x2 ht hh x)) rfl rfl rfl rfl rfl rfl rfl rfl

theorem zm_canon : View.canon (kernelRun0_A.sl.HS8_8 (F := Ideal) c arg1 harg1 arg2 harg2 arg3 harg3 arg9 x0 x1 x2) = gZm x0 x1 x2 := by
  unfold kernelRun0_A.sl.HS8_8
  exact canon8 (gZm x0 x1 x2) (fun ht hh => shapeCast S8x128 (addf (zT c arg1 harg1 arg2 harg2 arg3 harg3 arg9 x0 x1 x2 ht hh) (broadcast S8x128 (FloatOps.ofBits .f32 1262485504#32))) shapeCasts_S8x128_S8x128)
    (fun ht hh x => by
      rw [shapeCast_self, gZm, gZ, ← ofBits_magic]
      exact congrArg (· + _) (zT_apply c arg1 harg1 arg2 harg2 arg3 harg3 arg9 x0 x1 x2 ht hh x)) rfl rfl rfl rfl rfl rfl rfl rfl

end Cert.Tile

end
-- ==== Proof.Out.lean ====
module

public import proofs.«01_k».proof.Proof.Tile

@[expose] public section

noncomputable section

/-! # The three results of one grid point -/

namespace Cert.Out

open Idealize.ShloMosaic Cert.KernelIdeal Cert.KernelIdeal.Gen Cert.Tile Cert.Quant
open Idealize.ShloMosaic.TcCoe Idealize.ShloMosaic.Tactic Idealize.SL Idealize.SL.Sem

variable (c : Dev nD) (i : grid0.Coords) (arg1 : Memref sig .tc .vmem S2048x512 .f32) (harg1 : arg1.IsWhole) (arg2 : Memref sig .tc .vmem S16x512 .f32) (harg2 : arg2.IsWhole) (arg3 : Memref sig .tc .vmem S16x512 .f32) (harg3 : arg3.IsWhole) (arg4 : Memref sig .tc .vmem S2048x512 .i8) (harg4 : arg4.IsWhole) (arg5 : Memref sig .tc .vmem S16x512 .f32) (harg5 : arg5.IsWhole) (arg6 : Memref sig .tc .vmem S16x512 .f32) (harg6 : arg6.IsWhole) (arg7 : Memref sig .tc .vmem S2048x512 .bf16) (harg7 : arg7.IsWhole) (arg8 : Memref sig .tc .vmem S2048x512 .f32) (harg8 : arg8.IsWhole) (arg9 : Memref sig .tc .vmem S3x4x136x128 .f32) (harg9 : arg9.IsWhole) (arg10 : Memref sig .tc .vmem S16x512 .f32) (harg10 : arg10.IsWhole) (arg11 : Memref sig .tc .vmem S16x512 .f32) (harg11 : arg11.IsWhole) (arg12 : Memref sig .tc .vmem S16x512 .f32) (harg12 : arg12.IsWhole) (arg13 : Memref sig .tc .vmem S16x512 .f32) (harg13 : arg13.IsWhole) (arg14 : Memref sig .tc .vmem S16x512 .f32) (harg14 : arg14.IsWhole) (arg15 : Memref sig .tc .vmem S16x512 .f32) (harg15 : arg15.IsWhole)     (x0 : Vec Ideal S2048x512 .f32) (x1 : Vec Ideal S16x512 .f32) (x2 : Vec Ideal S16x512 .f32)

/-- The steps of the block. -/
theorem out_h : out0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 = gH x0 x1 x2 := by
  unfold out0_A_4
  rw [View.read_writes_junk_eq_canon]
  exact h_canon c arg1 harg1 arg2 harg2 arg3 harg3 arg9 x0 x1 x2

/-- The offsets of the block. -/
theorem out_z : out0_A_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 = gZ x0 x1 x2 := by
  unfold out0_A_5
  rw [View.read_writes_junk_eq_canon]
  exact z_canon c arg1 harg1 arg2 harg2 arg3 harg3 arg9 x0 x1 x2

/-- The loop's code of a weight is the quantised weight. -/
theorem code (y : S2048x512.Idx) (hy : gH x0 x1 x2 (Trip.grp y) ≠ 0) :
    Trip.gq x0 (gRh x0 x1 x2) (gLo x0 x1 x2) (gHi x0 x1 x2) (gZm x0 x1 x2) y = (col x0 x1 x2 (y 1)).q (y 0) := by
  obtain ⟨n, hn⟩ : ∃ n : ℤ, gZ x0 x1 x2 (Trip.grp y) = ((n : ℝ) : EReal) := offset_int hy
  have e := qword_eq (w := x0 y) hy n
  rw [← hn] at e
  unfold Trip.gq Trip.gq32
  rw [ofBits_magic]
  refine e.trans ?_
  rw [Trip.ix_eta (m := 2048) (n := 512) y]
  rfl

/-- The codes of the block. -/
theorem out_q (hh : ∀ y : S16x512.Idx, gH x0 x1 x2 y ≠ 0) (y : S2048x512.Idx) :
    out0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 y = (col x0 x1 x2 (y 1)).q (y 0) := by
  have hc := cover0_A_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 y
  unfold out0_A_3
  rw [View.read_writes_junk_eq_canon]
  unfold kernelRun0_A at hc ⊢
  dsimp only at hc ⊢
  refine (View.canon_apply_of_pieces _ _ (Trip.pb_pieces _ _ _ _ _ _ _ _ _ _ _ _ _ _ _ _ _ _ _ _ _ _ _ _ _ _ _ _ _ _ _ _ _ _ _ _ _ _ _ _ _ (le_refl _)).mem y hc).trans ?_
  rw [harg1.read_unread, View.read_writes_junk_eq_canon, View.read_writes_junk_eq_canon, View.read_writes_junk_eq_canon,
    View.read_writes_junk_eq_canon, rh_canon, lo_canon, hi_canon, zm_canon]
  exact code x0 x1 x2 y (hh _)

end Cert.Out

end
-- ==== Proof.Ref.lean ====
/- The reference's three results, index by index, as the columns of `Col`. -/
module

public import proofs.«01_k».proof.Proof.Column
public import proofs.«01_k».proof.Proof.Gen.ReferenceIdeal.Value
public import Idealize.ShloMosaic.Lib.Pointwise
public import Idealize.ShloMosaic.Lib.ValueIdx

@[expose] public section

noncomputable section

namespace Cert.Ref

open Idealize.ShloMosaic Cert.ReferenceIdeal Cert.ReferenceIdeal.Gen Cert.ReferenceIdeal.Value
open Cert.Quant

variable (a0 : Vec Ideal S2048x5632 .f32) (a1 : Vec Ideal S16x5632 .f32) (a2 : Vec Ideal S16x5632 .f32)

/-- Column `j` of the argument arrays. -/
def col (j : Fin 5632) : Col where
  w r := a0 (ix2 r j)
  ga g := a1 (ix2 g j)
  be g := a2 (ix2 g j)

/-- The reshape of the weights into groups of rows. -/
theorem group_cast (g : Fin 16) (k : Fin 128) (j : Fin 5632) :
    (shapeCast S16x128x5632 a0 shapeCasts_S2048x5632_S16x128x5632 : FVec Ideal S16x128x5632 .f32) (ix3 g k j)
      = ((col a0 a1 a2) j).w (Col.row g k) := by
  pointwise; rfl

theorem max_eq (g : Fin 16) (j : Fin 5632) :
    multiReduction .maximumf [1] S16x5632 (shapeCast S16x128x5632 a0 shapeCasts_S2048x5632_S16x128x5632 : FVec Ideal S16x128x5632 .f32)
      0xFF800000#32 reduces_S16x128x5632_S16x5632 (.inl rfl) rfl (ix2 g j) = ((col a0 a1 a2) j).wmax g := by
  pointwise; rw [ofBits_bot]; rfl

theorem min_eq (g : Fin 16) (j : Fin 5632) :
    multiReduction .minimumf [1] S16x5632 (shapeCast S16x128x5632 a0 shapeCasts_S2048x5632_S16x128x5632 : FVec Ideal S16x128x5632 .f32)
      0x7F800000#32 reduces_S16x128x5632_S16x5632 (.inl rfl) rfl (ix2 g j) = ((col a0 a1 a2) j).wmin g := by
  pointwise; rw [ofBits_top]; rfl

theorem pay1_eq (g : Fin 16) (k : Fin 128) (j : Fin 5632) : k0_pay1 a0 (ix3 g k j) = ((col a0 a1 a2) j).w (Col.row g k) :=
  group_cast a0 a1 a2 g k j

theorem pay2_eq (g : Fin 16) (j : Fin 5632) : k0_pay2 a0 a2 (ix2 g j) = ((col a0 a1 a2) j).sb g * ((col a0 a1 a2) j).wmin g := by
  unfold k0_pay2 k0_pay1
  refine (mulf_apply ..).trans ?_
  rw [min_eq a0 a1 a2]; rfl

/-- The step from the two ends of the range. -/
theorem step_eq (p r : FVec Ideal S16x5632 .f32) (i : S16x5632.Idx) :
    divf (subf p r) (broadcast S16x5632 (Scalar.ofBits .f32 0x41700000#32)) i = step (p i) (r i) := by
  unfold step; rw [← ofBits_fifteen]; rfl

theorem pay3_eq (g : Fin 16) (j : Fin 5632) : k0_pay3 a0 a1 a2 (ix2 g j) = ((col a0 a1 a2) j).h g := by
  unfold k0_pay3 k0_pay1
  refine (step_eq _ _ _).trans ?_
  rw [mulf_apply, pay2_eq a0 a1 a2, max_eq a0 a1 a2]; rfl

theorem pay4_eq (g : Fin 16) (j : Fin 5632) : k0_pay4 a0 a1 a2 (ix2 g j) = ((col a0 a1 a2) j).z g := by
  unfold k0_pay4; pointwise
  rw [pay2_eq a0 a1 a2, pay3_eq a0 a1 a2]; rfl

theorem row_split (r : Fin 2048) (h1 : r.val / 128 < 16) (h2 : r.val % 128 < 128) :
    Col.row ⟨r.val / 128, h1⟩ ⟨r.val % 128, h2⟩ = r := by
  apply Fin.ext; simp only [Col.row]; omega

theorem pay5_eq (r : Fin 2048) (j : Fin 5632) : k0_pay5 a0 a1 a2 (ix2 r j) = ((col a0 a1 a2) j).q r := by
  unfold k0_pay5; pointwise
  simp only [pay1_eq a0 a1 a2, pay3_eq a0 a1 a2, pay4_eq a0 a1 a2]
  rw [ofBits_fifteen, row_split]; rfl

end Cert.Ref

end
-- ==== Proof.Glue.lean ====
module

public import proofs.«01_k».proof.Proof.Out
public import proofs.«01_k».proof.Proof.Ref
public import proofs.«01_k».proof.Proof.Gen.KernelIdeal.Value
public import Idealize.ShloMosaic.Lib.Pipeline.ValueKit

@[expose] public section

noncomputable section

/-! # From the blocks to the arrays

Grid point `t` takes columns `512 t` to `512 t + 511` of every array. A column of a block is that column of the arrays, so
the three results hold, at every index, what `Col` writes there. -/

namespace Cert.Glue

open Idealize.ShloMosaic Cert.KernelIdeal Cert.KernelIdeal.Gen Cert.KernelIdeal.Value Cert.Tile Cert.Out Cert.Quant
open Idealize.ShloMosaic.TcCoe

variable (m : (ℓ : Loc nD τ sig) → Buf (Elt Ideal) ℓ)

/-- Column `j` of the argument arrays. -/
def acol (c : Dev nD) (j : Fin 5632) : Col :=
  Cert.Ref.col (m ((c : Thread nD τ).loc main_arg0)) (m ((c : Thread nD τ).loc main_arg1)) (m ((c : Thread nD τ).loc main_arg2)) j

/-- Block `t` starts at row 0 and at the column of its number. -/
theorem idx0 : ∀ t : Fin cfg0.N, win0_0.index t = ![0, t.val] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, t.val] := (by decide +kernel : ∀ t : Fin grid0.N, _)

/-- Column `j` of block `t` in the arrays. -/
def at512 (t : Fin cfg0.N) (j : Fin 512) : Fin 5632 :=
  ⟨t.val * 512 + j.val, by have h : t.val < 11 := t.isLt; omega⟩

theorem iblk0 (c : Dev nD) (t : Fin cfg0.N) (r : Fin 2048) (j : Fin 512) :
    (iblk m c 0 t : S2048x512.Idx → EReal) (ix2 r j) = m ((c : Thread nD τ).loc main_arg0) (ix2 r (at512 t j)) := by
  show V m c main_arg0 (((cfg0.win 0).blk t).view.emb (ix2 r j)) = _
  rw [V_main_arg0]
  congr 1
  have e := idx0 t
  funext a; apply Fin.ext
  match a with
  | ⟨0, _⟩ => show win0_0.index t (0 : Fin 2) * 2048 + 1 * r.val = r.val; rw [e]; simp
  | ⟨1, _⟩ => show win0_0.index t (1 : Fin 2) * 512 + 1 * j.val = t.val * 512 + j.val; rw [e]; simp

theorem iblk1 (c : Dev nD) (t : Fin cfg0.N) (r : Fin 16) (j : Fin 512) :
    (iblk m c 1 t : S16x512.Idx → EReal) (ix2 r j) = m ((c : Thread nD τ).loc main_arg1) (ix2 r (at512 t j)) := by
  show V m c main_arg1 (((cfg0.win 1).blk t).view.emb (ix2 r j)) = _
  rw [V_main_arg1]
  congr 1
  have e := idx1 t
  funext a; apply Fin.ext
  match a with
  | ⟨0, _⟩ => show win0_1.index t (0 : Fin 2) * 16 + 1 * r.val = r.val; rw [e]; simp
  | ⟨1, _⟩ => show win0_1.index t (1 : Fin 2) * 512 + 1 * j.val = t.val * 512 + j.val; rw [e]; simp

theorem iblk2 (c : Dev nD) (t : Fin cfg0.N) (r : Fin 16) (j : Fin 512) :
    (iblk m c 2 t : S16x512.Idx → EReal) (ix2 r j) = m ((c : Thread nD τ).loc main_arg2) (ix2 r (at512 t j)) := by
  show V m c main_arg2 (((cfg0.win 2).blk t).view.emb (ix2 r j)) = _
  rw [V_main_arg2]
  congr 1
  have e := idx2 t
  funext a; apply Fin.ext
  match a with
  | ⟨0, _⟩ => show win0_2.index t (0 : Fin 2) * 16 + 1 * r.val = r.val; rw [e]; simp
  | ⟨1, _⟩ => show win0_2.index t (1 : Fin 2) * 512 + 1 * j.val = t.val * 512 + j.val; rw [e]; simp

/-- A column of block `t` is a column of the arrays. -/
theorem col_eq (c : Dev nD) (t : Fin cfg0.N) (j : Fin 512) :
    col (iblk m c 0 t) (iblk m c 1 t) (iblk m c 2 t) j = acol m c (at512 t j) := by
  unfold col acol Cert.Ref.col
  congr 1 <;> funext r
  · exact iblk0 m c t r j
  · exact iblk1 m c t r j
  · exact iblk2 m c t r j

/-- Where block `t` of the step, of the offset and of the quantised weights lies. -/
theorem emb3 (t : Fin cfg0.N) (y : S2048x512.Idx) : ((cfg0.win 3).blk t).view.emb y = ix2 (y 0) (at512 t (y 1)) := by
  have e := idx3 t
  funext a; apply Fin.ext
  match a with
  | ⟨0, _⟩ => show win0_3.index t (0 : Fin 2) * 2048 + 1 * (y 0).val = (y 0).val; rw [e]; simp
  | ⟨1, _⟩ => show win0_3.index t (1 : Fin 2) * 512 + 1 * (y 1).val = t.val * 512 + (y 1).val; rw [e]; simp

theorem emb4 (t : Fin cfg0.N) (y : S16x512.Idx) : ((cfg0.win 4).blk t).view.emb y = ix2 (y 0) (at512 t (y 1)) := by
  have e := idx4 t
  funext a; apply Fin.ext
  match a with
  | ⟨0, _⟩ => show win0_4.index t (0 : Fin 2) * 16 + 1 * (y 0).val = (y 0).val; rw [e]; simp
  | ⟨1, _⟩ => show win0_4.index t (1 : Fin 2) * 512 + 1 * (y 1).val = t.val * 512 + (y 1).val; rw [e]; simp

theorem emb5 (t : Fin cfg0.N) (y : S16x512.Idx) : ((cfg0.win 5).blk t).view.emb y = ix2 (y 0) (at512 t (y 1)) := by
  have e := idx5 t
  funext a; apply Fin.ext
  match a with
  | ⟨0, _⟩ => show win0_5.index t (0 : Fin 2) * 16 + 1 * (y 0).val = (y 0).val; rw [e]; simp
  | ⟨1, _⟩ => show win0_5.index t (1 : Fin 2) * 512 + 1 * (y 1).val = t.val * 512 + (y 1).val; rw [e]; simp

/-- The steps after the run. -/
theorem final4 (c : Dev nD) : (dats m 0 c).arrAt 4 cfg0.N = fun i : S16x5632.Idx => (acol m c (i 1)).h (i 0) := by
  refine (dats m 0 c).arrAt_eq_of_covers 4 _ (by decide +kernel) fun t hf y => ?_
  have h := congrFun (flushed4_A m c t) y
  rw [out_h] at h
  refine Eq.trans (b := gH (iblk m c 0 t) (iblk m c 1 t) (iblk m c 2 t) y) h ?_
  rw [emb4]
  exact congrArg (fun C : Col => C.h (y 0)) (col_eq m c t (y 1))

/-- The offsets after the run. -/
theorem final5 (c : Dev nD) : (dats m 0 c).arrAt 5 cfg0.N = fun i : S16x5632.Idx => (acol m c (i 1)).z (i 0) := by
  refine (dats m 0 c).arrAt_eq_of_covers 5 _ (by decide +kernel) fun t hf y => ?_
  have h := congrFun (flushed5_A m c t) y
  rw [out_z] at h
  refine Eq.trans (b := gZ (iblk m c 0 t) (iblk m c 1 t) (iblk m c 2 t) y) h ?_
  rw [emb5]
  exact congrArg (fun C : Col => C.z (y 0)) (col_eq m c t (y 1))

/-- The quantised weights after the run, where no step is zero. -/
theorem final3 (c : Dev nD) (hh : ∀ g j, (acol m c j).h g ≠ 0) :
    (dats m 0 c).arrAt 3 cfg0.N = fun i : S2048x5632.Idx => (acol m c (i 1)).q (i 0) := by
  refine (dats m 0 c).arrAt_eq_of_covers 3 _ (by decide +kernel) fun t hf y => ?_
  have h := congrFun (flushed3_A m c t) y
  have hb : ∀ y : S16x512.Idx, gH (iblk m c 0 t) (iblk m c 1 t) (iblk m c 2 t) y ≠ 0 := fun y => by
    exact (congrArg (fun C : Col => C.h (y 0)) (col_eq m c t (y 1))).trans_ne (hh _ _)
  refine Eq.trans (b := (col (iblk m c 0 t) (iblk m c 1 t) (iblk m c 2 t) (y 1)).q (y 0)) (h.trans ?_) ?_
  · exact out_q _ _ _ _ _ _ _ _ _ _ _ _ _ _ _ _ _ _ _ _ _ _ _ _ _ _ _ _ _ _ _ _ _ _ _ hb y
  · rw [emb3]; exact congrArg (fun C : Col => C.q (y 0)) (col_eq m c t (y 1))

end Cert.Glue

end
-- ==== Proof.Pre.lean ====
module

public import proofs.«01_k».proof.Proof.Ref
public import proofs.«01_k».proof.Pre_nonzero_step
public import Idealize.ShloMosaic.Lib.IdealHost

@[expose] public section

noncomputable section

/-! # The precondition, read

The precondition computes the step of every group and says that none is zero. -/

namespace Cert.Pre

open Idealize.ShloMosaic Cert.Pre_nonzero_step Cert.Quant

instance facts : Cert.Pre_nonzero_step.Facts where
  shapeCasts_S2048x5632_S16x128x5632 := by decide
  bcast_S_S16x5632 := by decide
  reducesTo_S16x128x5632_S16x5632_d1 := by decide
  h_S_ := by decide

variable (a0 : Vec Ideal S2048x5632 .f32) (a1 : Vec Ideal S16x5632 .f32) (a2 : Vec Ideal S16x5632 .f32)

theorem nonzero (h : Cert.Pre_nonzero_step.fn (F := Ideal) a0 a1 a2 = fun _ => 1#1) (g : Fin 16) (j : Fin 5632) : ((Cert.Ref.col a0 a1 a2) j).h g ≠ 0 := by
  have hi := congrFun h (ix2 g j)
  unfold fn fn_part1 at hi
  pointwise at hi
  rw [ofBits_fifteen, ofBits_bot, ofBits_top] at hi
  have hi' : BitVec.ofBool (decide (((Cert.Ref.col a0 a1 a2) j).h g ≠ 0)) = 1#1 := hi
  intro h0
  rw [h0] at hi'
  simp at hi'

end Cert.Pre

end
-- ==== Proof.Chain.lean ====
/- One column of the second part of the kernel's work: the error, the gradient of the weights, and what becomes of it. -/
module

public import Idealize.ShloMosaic.Lib.ValueIdx
public import Idealize.ShloMosaic.Lib.Pointwise

@[expose] public section

noncomputable section

namespace Cert.Chain

open Idealize.ShloMosaic

/-- What a column of the outputs is made of: the activations and their scales, which all columns share, and the column
of the dequantised weights, of the derivative factors, of the targets, and of the four numbers of every group. -/
structure Chn where
  x : Fin 256 → Fin 2048 → EReal
  sc : Fin 256 → EReal
  w : Fin 2048 → EReal
  d : Fin 2048 → EReal
  y : Fin 256 → EReal
  mx : Fin 16 → EReal
  mn : Fin 16 → EReal
  ga : Fin 16 → EReal
  be : Fin 16 → EReal

/-- Two over the number of elements of the product, as the kernel's constant. -/
def two_n : EReal := Ideal.ofBits .f32 901394060#32
/-- The number of elements of the product. -/
def n_elem : EReal := Ideal.ofBits .f32 1236271104#32
/-- The largest code. -/
def qmax : EReal := Ideal.ofBits .f32 1097859072#32

namespace Chn
variable (C : Chn)

/-- Row `k` of group `g`. -/
abbrev row (g : Fin 16) (k : Fin 128) : Fin 2048 := ⟨g.val * 128 + k.val, by omega⟩

/-- The error of a token. -/
def err (r : Fin 256) : EReal := (∑ k, C.x r k * C.w k) * C.sc r - C.y r
/-- A token's error with the token's scale. -/
def es (r : Fin 256) : EReal := C.err r * C.sc r
/-- The gradient of a weight, without the constant of the mean. -/
def grad (k : Fin 2048) : EReal := ∑ r, C.x r k * C.es r
/-- The gradient of a group's step. -/
def s (g : Fin 16) : EReal := ∑ k, C.grad (row g k) * two_n * C.d (row g k)
/-- The gradients of the group's two parameters. -/
def dg (g : Fin 16) : EReal :=
  Ideal.div (C.s g * Ideal.logistic (C.ga g) * (1 - Ideal.logistic (C.ga g)) * C.mx g) qmax
def db (g : Fin 16) : EReal :=
  Ideal.div ((0 - C.s g) * Ideal.logistic (C.be g) * (1 - Ideal.logistic (C.be g)) * C.mn g) qmax
/-- The column's squared error. -/
def sq : EReal := ∑ r, C.err r * C.err r

end Chn

theorem two_n_real : ∃ v : ℝ, 0 ≤ v ∧ two_n = (v : EReal) := by
  refine ⟨_, ?_, by unfold two_n; simp [Ideal.ofBits, Ideal.ieee, -EReal.coe_mul]; rfl⟩
  positivity

theorem two_n_nonneg : 0 ≤ two_n := by
  obtain ⟨v, h, e⟩ := two_n_real; rw [e]; exact_mod_cast h
theorem two_n_top : two_n ≠ ⊤ := by
  obtain ⟨v, h, e⟩ := two_n_real; rw [e]; exact EReal.coe_ne_top v

/-- A finite constant that is not negative comes out of a sum. -/
theorem sum_mul_const {ι : Type*} (S : Finset ι) (f : ι → EReal) {c : EReal} (h : 0 ≤ c) (ht : c ≠ ⊤) :
    (∑ i ∈ S, f i * c) = (∑ i ∈ S, f i) * c := by
  classical
  induction S using Finset.induction_on with
  | empty => simp
  | insert a S ha ih =>
    rw [Finset.sum_insert ha, Finset.sum_insert ha, ih, EReal.right_distrib_of_nonneg_of_ne_top h ht]

/-- The kernel multiplies by the constant after the sum over the group's rows. -/
theorem Chn.s_eq (C : Chn) (g : Fin 16) : C.s g = (∑ k, C.grad (Chn.row g k) * C.d (Chn.row g k)) * two_n := by
  unfold Chn.s
  rw [← sum_mul_const _ _ two_n_nonneg two_n_top]
  exact Finset.sum_congr rfl fun k _ => mul_right_comm _ _ _

/-- The rows of a group in the kernel's order: over the eight sublanes, the sixteen tiles of eight rows. -/
theorem sum_rows (f : Fin 128 → EReal) :
    (∑ s : Fin 8, ∑ i : Fin 16, f ⟨8 * i.val + s.val, by omega⟩) = ∑ k, f k := by
  rw [Finset.sum_comm, ← Fintype.sum_prod_type']
  exact Fintype.sum_equiv (finProdFinEquiv (m := 16) (n := 8)) _ _ fun p => congrArg f (Fin.ext (by
    show 8 * p.1.val + p.2.val = p.2.val + 8 * p.1.val; omega))

end Cert.Chain

end
-- ==== Proof.Err.lean ====
/- A block of 512 columns of the second part: the error, the squared error in tiles of eight rows, and the products whose
row sums the slabs take. -/
module

public import proofs.«01_k».proof.Proof.Chain
public import proofs.«01_k».proof.Proof.Gen.ProductsIdeal.Frame

@[expose] public section

noncomputable section

namespace Cert.Err

open Idealize.ShloMosaic Cert.ProductsIdeal Cert.ProductsIdeal.Gen Cert.Chain

/-- Column `j` of a block. -/
def col (x0 : Vec Ideal S256x2048 .fp8e4m3) (x1 : Vec Ideal S1x256 .f32) (x2 : Vec Ideal S2048x512 .bf16)
    (x3 : Vec Ideal S2048x512 .f32) (x4 x5 x6 x7 : Vec Ideal S16x512 .f32) (x8 : Vec Ideal S256x512 .bf16) (j : Fin 512) : Chn where
  x r k := x0 (ix2 r k)
  sc r := x1 (ix2 0 r)
  w k := x2 (ix2 k j)
  d k := x3 (ix2 k j)
  y r := x8 (ix2 r j)
  mx g := x4 (ix2 g j)
  mn g := x5 (ix2 g j)
  ga g := x6 (ix2 g j)
  be g := x7 (ix2 g j)

/-- What the first grid point leaves in scratch for all of them: the activations, transposed too, and their scales along
the lanes. -/
structure Held (x0 : Vec Ideal S256x2048 .fp8e4m3) (x1 : Vec Ideal S1x256 .f32)
    (xb : Vec Ideal S256x2048 .bf16) (xt : Vec Ideal S2048x256 .bf16) (xs : Vec Ideal S256x128 .f32) : Prop where
  b : ∀ r k, xb (ix2 r k) = x0 (ix2 r k)
  t : ∀ k r, xt (ix2 k r) = x0 (ix2 r k)
  s : ∀ r l, xs (ix2 r l) = x1 (ix2 0 r)

theorem held_first (x0 : Vec Ideal S256x2048 .fp8e4m3) (x1 : Vec Ideal S1x256 .f32) :
    Held x0 x1 (k0_pay5 x0) (k0_pay6 x0) (k0_pay7 x1) where
  b r k := by unfold k0_pay5 k0_pay4; pointwise
  t k r := by unfold k0_pay6 k0_pay4; pointwise
  s r l := by unfold k0_pay7; pointwise

variable {x0 : Vec Ideal S256x2048 .fp8e4m3} {x1 : Vec Ideal S1x256 .f32} (x2 : Vec Ideal S2048x512 .bf16)
  (x3 : Vec Ideal S2048x512 .f32) (x4 x5 x6 x7 : Vec Ideal S16x512 .f32) (x8 : Vec Ideal S256x512 .bf16)
  {xb : Vec Ideal S256x2048 .bf16} {xt : Vec Ideal S2048x256 .bf16} {xs : Vec Ideal S256x128 .f32}

theorem scale_eq (h : Held x0 x1 xb xt xs) (r : Fin 256) (j : Fin 512) : k0_pay9 xs (ix2 r j) = x1 (ix2 0 r) := by
  unfold k0_pay9; pointwise
  simp only [h.s, dite_eq_ite, ite_self]

theorem err_eq (h : Held x0 x1 xb xt xs) (r : Fin 256) (j : Fin 512) : k0_pay10 xb x2 xs x8 (ix2 r j) = ((col x0 x1 x2 x3 x4 x5 x6 x7 x8) j).err r := by
  unfold k0_pay10; pointwise
  rw [scale_eq h]
  simp only [h.b]
  rfl

theorem es_eq (h : Held x0 x1 xb xt xs) (r : Fin 256) (j : Fin 512) : k0_pay12 xb x2 xs x8 (ix2 r j) = ((col x0 x1 x2 x3 x4 x5 x6 x7 x8) j).es r := by
  unfold k0_pay12; pointwise
  rw [scale_eq h, err_eq x2 x3 x4 x5 x6 x7 x8 h]
  rfl

/-- The squared errors of a sublane's rows. -/
def sqs (C : Chn) (s : Fin 8) : EReal := ∑ i : Fin 32, C.err ⟨i.val * 8 + s.val, by omega⟩ * C.err ⟨i.val * 8 + s.val, by omega⟩

theorem sum_sqs (C : Chn) : (∑ s, sqs C s) = C.sq := by
  unfold sqs Chn.sq
  rw [Finset.sum_comm, ← Fintype.sum_prod_type']
  exact Fintype.sum_equiv (finProdFinEquiv (m := 32) (n := 8)) _ _ fun p => congrArg (fun r => C.err r * C.err r) (Fin.ext (by
    show p.1.val * 8 + p.2.val = p.2.val + 8 * p.1.val; omega))

theorem acc_eq (h : Held x0 x1 xb xt xs) (a : Vec Ideal S8x512 .f32) (s : Fin 8) (j : Fin 512) :
    k0_pay11 xb x2 xs x8 a (ix2 s j) = a (ix2 s j) + sqs ((col x0 x1 x2 x3 x4 x5 x6 x7 x8) j) s := by
  unfold k0_pay11; pointwise
  simp only [err_eq x2 x3 x4 x5 x6 x7 x8 h]
  rfl

theorem acc_first (s : Fin 8) (j : Fin 512) : k0_pay8 (F := Ideal) (ix2 s j) = 0 := by
  unfold k0_pay8; pointwise

/-- The loss from what the accumulator holds. -/
theorem loss_eq (a : Vec Ideal S8x512 .f32) (y : S1x1.Idx) :
    k0_pay3 a y = Ideal.div (∑ s : Fin 8, ∑ j : Fin 512, a (ix2 s j)) n_elem := by
  unfold k0_pay3; pointwise; rfl

/-- One of the eight tiles of the products. -/
abbrev prodT (xtT : FVec Ideal S256x256 .bf16) (es : FVec Ideal S256x512 .bf16) (ddT : FVec Ideal S256x512 .f32) : FVec Ideal S256x512 .f32 :=
  mulf (matmul dot_S256x256_S256x512_S256x512_1_0_0_1_n_n none xtT es (constant S256x512 .f32 0x00000000#32)) ddT

/-- A product by row and column numbers. -/
def PN (C : Fin 512 → Chn) (r c : ℕ) : EReal :=
  if h : r < 2048 ∧ c < 512 then (C ⟨c, h.2⟩).grad ⟨r, h.1⟩ * (C ⟨c, h.2⟩).d ⟨r, h.1⟩ else 0

theorem prodT_eq (h : Held x0 x1 xb xt xs) (t : Fin 8) (xtT : FVec Ideal S256x256 .bf16) (ddT : FVec Ideal S256x512 .f32)
    (hx : ∀ k r : Fin 256, xtT (ix2 k r) = xt (ix2 ⟨256 * t.val + k.val, by omega⟩ r))
    (hd : ∀ (k : Fin 256) (j : Fin 512), ddT (ix2 k j) = x3 (ix2 ⟨256 * t.val + k.val, by omega⟩ j)) (k : Fin 256) (j : Fin 512) :
    prodT xtT (k0_pay12 xb x2 xs x8) ddT (ix2 k j) = PN (col x0 x1 x2 x3 x4 x5 x6 x7 x8) (256 * t.val + k.val) j.val := by
  unfold PN
  rw [dif_pos ⟨by omega, j.isLt⟩]
  pointwise
  simp only [hx, hd, h.t, es_eq x2 x3 x4 x5 x6 x7 x8 h]
  rfl

end Cert.Err

end
-- ==== Proof.Sums.lean ====
/- The slabs of the second part: the sums over the row tiles, and what the kernel reads back from them. -/
module

public import proofs.«01_k».proof.Proof.Err
public import Idealize.ShloMosaic.Lib.WholeRead
public import Idealize.ShloMosaic.Lib.Pipeline.ReadBack

@[expose] public section

noncomputable section

/-! # The sums in the slabs

For every group the kernel first sums the products over the sixteen tiles of eight rows, and stores the eight numbers
that remain in each lane seventeen rows apart. `gS` is what the slabs then hold. The lemmas speak of any list of stores
of that kind, because the kernel makes one at its first grid point and another at the later ones. -/

namespace Cert.Sums

open Idealize.ShloMosaic Cert.ProductsIdeal Cert.ProductsIdeal.Gen Cert.Chain Cert.Err
open Idealize.ShloMosaic.TcCoe Idealize.ShloMosaic.Tactic Idealize.SL Idealize.SL.Sem

/-- Tile `c`, group `g`, sublane `s`, lane `l` of the slabs. -/
def gN (P : ℕ → ℕ → EReal) (c g s l : ℕ) : EReal := ∑ i : Fin 16, P (g * 128 + (i.val * 8 + s)) (c * 128 + l)

/-- What the slabs hold. -/
def gS (P : ℕ → ℕ → EReal) (y : S3x4x136x128.Idx) : EReal := gN P (y 1).val ((y 2).val % 17) ((y 2).val / 17) (y 3).val

theorem sl0 {gg : ℕ} (h : gg < 2) : S256x512.Slices ![gg * 128, 0] S128x512 := by
  refine ⟨rfl, fun a => ?_⟩
  fin_cases a
  · show gg * 128 + 128 ≤ 256; omega
  · show 0 + 512 ≤ 512; omega

theorem sl1 {c : ℕ} (h : c < 4) : S8x512.Slices ![0, c * 128] S8x128 := by
  refine ⟨rfl, fun a => ?_⟩
  fin_cases a
  · show 0 + 8 ≤ 8; omega
  · show c * 128 + 128 ≤ 512; omega

/-- A group's sums over the row tiles, 128 lanes of them. -/
abbrev laneT (p : FVec Ideal S256x512 .f32) {gg c : ℕ} (hg : gg < 2) (hc : c < 4) : FVec Ideal S8x128 .f32 :=
  shapeCast S8x128 (extractStridedSlice S8x128 ![0, c * 128]
    (multiReduction .add [0] S8x512 (shapeCast S16x8x512 (extractStridedSlice S128x512 ![gg * 128, 0] p (sl0 hg) : FVec Ideal S128x512 .f32)
      shapeCasts_S128x512_S16x8x512) 0x00000000#32 reduces_S16x8x512_S8x512 (.inl rfl) rfl) (sl1 hc) : FVec Ideal S8x128 .f32) shapeCasts_S8x128_S8x128

theorem laneT_apply (P : ℕ → ℕ → EReal) (p : FVec Ideal S256x512 .f32) {t : ℕ} (hp : ∀ (k : Fin 256) (j : Fin 512), p (ix2 k j) = P (256 * t + k.val) j.val)
    {gg c : ℕ} (hg : gg < 2) (hc : c < 4) (s : Fin 8) (l : Fin 128) :
    laneT p hg hc (ix2 s l) = gN P c (2 * t + gg) s.val l.val := by
  pointwise
  unfold gN
  refine Finset.sum_congr rfl fun i _ => (hp _ _).trans ?_
  show P (256 * t + (gg * 128 + (i.val * 8 + s.val))) _ = _
  rw [show 256 * t + (gg * 128 + (i.val * 8 + s.val)) = (2 * t + gg) * 128 + (i.val * 8 + s.val) by omega]

theorem eta {m n : ℕ} (y : (⟨2, ![m, n]⟩ : Shape).Idx) : y = ix2 (y 0) (y 1) := by
  funext a; fin_cases a <;> rfl

/-- The first `k` stores of the slabs are tiles of one array, and store `k` covers the rows of its group. -/
def SlabOf (G : S3x4x136x128.Idx → EReal) : ℕ → List (View.Piece (Elt Ideal) S3x4x136x128 .f32) → Prop
  | 0, _ => True
  | _ + 1, [] => False
  | k + 1, q :: L => ((∀ x : q.1.shape.Idx, q.2 x = G (q.1.emb x)) ∧
      ∀ y : S3x4x136x128.Idx, (y 0).val = 2 → (y 1).val = k % 4 → (y 2).val % 17 = k / 4 → y ∈ q.1.set) ∧ SlabOf G k L

/-- A store of one group's sums, from the tile of products `pr` of its two groups. -/
theorem slab_cons (P : ℕ → ℕ → EReal) (pr : Fin 8 → FVec Ideal S256x512 .f32)
    (hpr : ∀ (t : Fin 8) (k : Fin 256) (j : Fin 512), pr t (ix2 k j) = P (256 * t.val + k.val) j.val)
    {t gg c g k : ℕ} (ht : t = k / 8) (hgg : gg = k / 4 % 2) (hg : g = k / 4) (hc : c = k % 4) (hk : k < 64)
    {o0 : Fin 4 → ℕ} {o1 st : Fin 2 → ℕ} (e0 : o0 = ![2, c, 0, 0]) (e1 : o1 = ![g, 0]) (es : st = ![17, 1])
    {inb0 inb1 sp h1 h2 h3 h4 h5 hR}
    {T : S8x128.Idx → EReal} (hT : T = laneT (pr ⟨t, by omega⟩) (gg := gg) (c := c) (by omega) (by omega))
    {L : List (View.Piece (Elt Ideal) S3x4x136x128 .f32)} (hL : SlabOf (gS P) k L) :
    SlabOf (gS P) (k + 1) (⟨(Rect.unit (s := S3x4x136x128) o0 S1x1x136x128.size inb0).within
      ((({ off := o1, size := S8x128.size, stride := st, inb := inb1, stride_pos := sp } : Rect S136x128).consLift ![1, 136, 128] h1 h2).consLift ![1, 1, 136, 128] h3 h4) h5,
      Rect.payAlong (r := ({ off := o1, size := S8x128.size, stride := st, inb := inb1, stride_pos := sp } : Rect S136x128)) hR T⟩ :: L) := by
  have hT' : ∀ x : S8x128.Idx, T x = gN P c g (x 0).val (x 1).val := fun x => by
    have e : 2 * t + gg = g := by omega
    refine (congrFun hT x).trans ((congrArg (laneT (pr ⟨t, by omega⟩) (gg := gg) (c := c) (by omega) (by omega)) (eta x)).trans ?_)
    exact (laneT_apply P (pr ⟨t, by omega⟩) (hpr ⟨t, by omega⟩) _ _ (x 0) (x 1)).trans (congrArg (fun g => gN P c g (x 0).val (x 1).val) e)
  subst e0 e1 es
  refine ⟨⟨fun x => ?_, fun y hy0 hy1 hy2 => ?_⟩, hL⟩
  · set R1 := ({ off := ![g, 0], size := S8x128.size, stride := ![17, 1], inb := inb1, stride_pos := sp } : Rect S136x128)
    set R2 := R1.consLift ![1, 136, 128] h1 h2
    have e : Shape.reshapeEquiv hR x = Shape.reshapeEquiv (R1.numel_consLift _ h1 h2) (Shape.reshapeEquiv (R2.numel_consLift ![1, 1, 136, 128] h3 h4) x) := by
      exact (Shape.reshapeEquiv_reshapeEquiv (R1.numel_consLift ![1, 136, 128] h1 h2) (R2.numel_consLift ![1, 1, 136, 128] h3 h4) x).symm
    have f0 : (x 2).val = (Shape.reshapeEquiv hR x 0).val := by
      rw [e]
      exact (R2.reshapeEquiv_consLift_succ ![1, 1, 136, 128] h3 h4 x 1).trans (R1.reshapeEquiv_consLift_succ ![1, 136, 128] h1 h2 _ 0)
    have f1 : (x 3).val = (Shape.reshapeEquiv hR x 1).val := by
      rw [e]
      exact (R2.reshapeEquiv_consLift_succ ![1, 1, 136, 128] h3 h4 x 2).trans (R1.reshapeEquiv_consLift_succ ![1, 136, 128] h1 h2 _ 1)
    have l1 : (x 1).val < 1 := (x 1).isLt
    have l2 : (x 2).val < 8 := (x 2).isLt
    refine (hT' _).trans ?_
    rw [← f0, ← f1]
    show _ = gN P (c + 0 + 1 * (x 1).val) ((0 + g + 17 * (x 2).val) % 17) ((0 + g + 17 * (x 2).val) / 17) (0 + 0 + 1 * (x 3).val)
    congr 1 <;> omega
  · rw [LoadRect.mem_set]
    have l2 : (y 2).val < 136 := (y 2).isLt
    have l3 : (y 3).val < 128 := (y 3).isLt
    intro a
    fin_cases a
    · exact ⟨0, Nat.one_pos, by show (y 0).val = 2 + 0 + 1 * 0; omega⟩
    · exact ⟨0, Nat.one_pos, by show (y 1).val = c + 0 + 1 * 0; omega⟩
    · exact ⟨(y 2).val / 17, by show (y 2).val / 17 < 8; omega, by show (y 2).val = 0 + g + 17 * ((y 2).val / 17); omega⟩
    · exact ⟨(y 3).val, l3, by show (y 3).val = 0 + 0 + 1 * (y 3).val; omega⟩

theorem SlabOf.pieces {G : S3x4x136x128.Idx → EReal} : ∀ {k : ℕ} {L : List (View.Piece (Elt Ideal) S3x4x136x128 .f32)},
    SlabOf G k L → L.length = k → View.PiecesOf (Val := Elt Ideal) (e := .f32) G L
  | 0, [], _, _ => trivial
  | _ + 1, _ :: _, h, e => ⟨h.1.1, SlabOf.pieces h.2 (by simpa using e)⟩

theorem SlabOf.cover {G : S3x4x136x128.Idx → EReal} : ∀ {k : ℕ} {L : List (View.Piece (Elt Ideal) S3x4x136x128 .f32)},
    SlabOf G k L → ∀ j < k, ∀ y : S3x4x136x128.Idx, (y 0).val = 2 → (y 1).val = j % 4 → (y 2).val % 17 = j / 4 →
      ∃ q ∈ L, y ∈ q.1.set
  | 0, _, _, j, hj, _, _, _, _ => absurd hj (Nat.not_lt_zero j)
  | k + 1, q :: L, h, j, hj, y, h0, h1, h2 => by
    rcases Nat.lt_succ_iff_lt_or_eq.mp hj with hj' | rfl
    · obtain ⟨q', hq', hy⟩ := SlabOf.cover h.2 j hj' y h0 h1 h2
      exact ⟨q', List.mem_cons_of_mem _ hq', hy⟩
    · exact ⟨q, List.mem_cons_self, h.1.2 y h0 h1 h2⟩

/-- All sixty-four stores of a grid point. -/
structure Slabs (P : ℕ → ℕ → EReal) (H : List (View.Piece (Elt Ideal) S3x4x136x128 .f32)) : Prop where
  of : SlabOf (gS P) 64 H
  len : H.length = 64

variable {P : ℕ → ℕ → EReal} {H : List (View.Piece (Elt Ideal) S3x4x136x128 .f32)}

/-- What the slabs hold at a row that belongs to a group. -/
theorem slab_canon (hH : Slabs P H) (y : S3x4x136x128.Idx) (h0 : (y 0).val = 2) (h2 : (y 2).val % 17 < 16) :
    View.canon H y = gS P y := by
  have l1 : (y 1).val < 4 := (y 1).isLt
  refine View.canon_apply_of_pieces (gS P) _ (hH.of.pieces hH.len).mem y
    (hH.of.cover ((y 2).val % 17 * 4 + (y 1).val) (by omega) y h0 (by omega) (by omega))

/-- A tile of eight rows read back from a slab. -/
theorem load_apply (hH : Slabs P H) (arg16 : Memref sig .tc .vmem S3x4x136x128 .f32) {t o : ℕ} {o0 : Fin 4 → ℕ} {o1 : Fin 2 → ℕ}
    (e0 : o0 = ![2, t, 0, 0]) (e1 : o1 = ![o, 0]) (s half : ℕ) (ho : o = 17 * s + 8 * half) (hh : half < 2)
    {inb0 inb1 h1 h2 h3 h4 h5}
    (hR : (Rect.unit (s := S136x128) o1 S8x128.size inb1).toLoadRect.shape.numel
      = ((Rect.unit (s := S3x4x136x128) o0 S1x1x136x128.size inb0).withinL
        (((Rect.unit (s := S136x128) o1 S8x128.size inb1).toLoadRect.consLift ![1, 136, 128] h1 h2).consLift ![1, 1, 136, 128] h3 h4) h5).shape.numel)
    (x : S8x128.Idx) :
    LoadRect.valAlong hR (arg16.view.readCov H
      ((Rect.unit (s := S3x4x136x128) o0 S1x1x136x128.size inb0).withinL
        (((Rect.unit (s := S136x128) o1 S8x128.size inb1).toLoadRect.consLift ![1, 136, 128] h1 h2).consLift ![1, 1, 136, 128] h3 h4) h5)) x
    = gN P t (8 * half + (x 0).val) s (x 1).val := by
  subst e0 e1
  have l0 : (x 0).val < 8 := (x 0).isLt
  set lr := (Rect.unit (s := S136x128) ![o, 0] S8x128.size inb1).toLoadRect
  have e : Shape.reshapeEquiv hR x = Fin.cons ⟨0, Nat.one_pos⟩ (Fin.cons ⟨0, Nat.one_pos⟩ x) := by
    refine (Shape.reshapeEquiv_reshapeEquiv ((lr.consLift ![1, 136, 128] h1 h2).numel_consLift ![1, 1, 136, 128] h3 h4)
      (lr.numel_consLift ![1, 136, 128] h1 h2) x).symm.trans ?_
    exact (Shape.reshapeEquiv_cons_one _ _).trans (congrArg _ (Shape.reshapeEquiv_cons_one _ x))
  have em : (0 + o + 1 * (x 0).val) % 17 = 8 * half + (x 0).val := by
    rw [show 0 + o + 1 * (x 0).val = 17 * s + (8 * half + (x 0).val) by omega, Nat.mul_add_mod]; omega
  have ed : (0 + o + 1 * (x 0).val) / 17 = s := by omega
  rw [View.readCov_eq_canon']
  show View.canon _ _ = _
  rw [e, slab_canon hH]
  · show gN P (t + 0 + 1 * 0) ((0 + o + 1 * (x 0).val) % 17) ((0 + o + 1 * (x 0).val) / 17) (0 + 0 + 1 * (x 1).val) = _
    rw [em, ed]; congr 1 <;> omega
  · rfl
  · show (0 + o + 1 * (x 0).val) % 17 < 16; rw [em]; omega

/-- The slabs summed over the sublanes are the group's sum of the products. -/
theorem sum_slab (C : Fin 512 → Chn) (g : Fin 16) {t l : ℕ} (j : Fin 512) (hj : j.val = t * 128 + l) :
    (∑ s : Fin 8, gN (PN C) t g.val s.val l) = ∑ k, (C j).grad (Chn.row g k) * (C j).d (Chn.row g k) := by
  rw [← sum_rows]
  refine Finset.sum_congr rfl fun s _ => Finset.sum_congr rfl fun i _ => ?_
  unfold PN
  rw [← hj, dif_pos ⟨by omega, j.isLt⟩]
  have e : (⟨g.val * 128 + (i.val * 8 + s.val), by omega⟩ : Fin 2048) = Chn.row g ⟨8 * i.val + s.val, by omega⟩ := Fin.ext (by
    show g.val * 128 + (i.val * 8 + s.val) = g.val * 128 + (8 * i.val + s.val); omega)
  exact congrArg (fun r => (C j).grad r * (C j).d r) e

end Cert.Sums

end
-- ==== Proof.Stores.lean ====
/- The sixty-four stores of a grid point's slabs, at the first grid point and at the later ones. -/
module

public import proofs.«01_k».proof.Proof.Sums
public import Idealize.ShloMosaic.Lib.Pipeline.ValueKit.Acc

@[expose] public section

noncomputable section

namespace Cert.Stores

open Idealize.ShloMosaic Cert.ProductsIdeal Cert.ProductsIdeal.Gen Cert.Chain Cert.Err Cert.Sums
open Idealize.ShloMosaic.TcCoe Idealize.ShloMosaic.Tactic Idealize.SL Idealize.SL.Sem

/-- A load of a whole buffer. -/
theorem read_whole {S : Shape} {e : EltTy} {arg : Memref sig .tc .vmem S e} (h : arg.IsWhole) (X : S.Idx → Elt Ideal e)
    {off : Fin S.rank → ℕ} (inb : ∀ a, off a + S.size a ≤ S.size a) (h0 : ∀ a, off a = 0) :
    View.readAt (Elt Ideal) arg.view (Rect.unit off S.size inb).toLoadRect (h.unread X) = X :=
  funext fun y => (h.readAt_unread X (Rect.unit off S.size inb).toLoadRect y).trans (congrArg X (funext fun a => Fin.ext (by
    show off a + 1 * (y a).val = (y a).val
    rw [h0 a]; omega)))

theorem zero2 : ∀ a : Fin 2, (![0, 0] : Fin 2 → ℕ) a = 0 := by decide

theorem inbX {t : ℕ} (h : t < 8) (a : Fin 2) : (![256 * t, 0] : Fin 2 → ℕ) a + S256x256.size a ≤ S2048x256.size a := by
  fin_cases a
  · show 256 * t + 256 ≤ 2048; omega
  · exact Nat.le_refl 256

theorem inbD {t : ℕ} (h : t < 8) (a : Fin 2) : (![256 * t, 0] : Fin 2 → ℕ) a + S256x512.size a ≤ S2048x512.size a := by
  fin_cases a
  · show 256 * t + 256 ≤ 2048; omega
  · exact Nat.le_refl 512

section
variable {arg14 : Memref sig .tc .vmem S2048x256 .bf16} (harg14 : arg14.IsWhole) {arg4 : Memref sig .tc .vmem S2048x512 .f32} (harg4 : arg4.IsWhole)
  (xt : Vec Ideal S2048x256 .bf16) (x3 : Vec Ideal S2048x512 .f32)

/-- The rows of a tile: of the transposed activations, of those just stored, and of the derivative factors. -/
abbrev xtT (t : Fin 8) : FVec Ideal S256x256 .bf16 :=
  View.readAt (Elt Ideal) arg14.view (Rect.unit (s := S2048x256) ![256 * t.val, 0] S256x256.size (inbX t.isLt)).toLoadRect (harg14.unread xt)
abbrev xtC (arg14 : Memref sig .tc .vmem S2048x256 .bf16) (inb : ∀ a, (![0, 0] : Fin 2 → ℕ) a + S2048x256.size a ≤ S2048x256.size a) (t : Fin 8) : FVec Ideal S256x256 .bf16 :=
  arg14.view.readCov ([⟨Rect.unit (s := S2048x256) ![0, 0] S2048x256.size inb, xt⟩] : List (View.Piece (Elt Ideal) S2048x256 .bf16))
    (Rect.unit (s := S2048x256) ![256 * t.val, 0] S256x256.size (inbX t.isLt)).toLoadRect
abbrev ddT (t : Fin 8) : FVec Ideal S256x512 .f32 :=
  View.readAt (Elt Ideal) arg4.view (Rect.unit (s := S2048x512) ![256 * t.val, 0] S256x512.size (inbD t.isLt)).toLoadRect (harg4.unread x3)

theorem row_idx {n : ℕ} (t : Fin 8) (k : Fin 256) (r : Fin n)
    (inb : ∀ a : Fin 2, (![256 * t.val, 0] : Fin 2 → ℕ) a + (![256, n] : Fin 2 → ℕ) a ≤ (![2048, n] : Fin 2 → ℕ) a) :
    (Rect.unit (s := (⟨2, ![2048, n]⟩ : Shape)) ![256 * t.val, 0] ![256, n] inb).toLoadRect.idx (ix2 k r) = ix2 ⟨256 * t.val + k.val, by omega⟩ r := by
  funext a; apply Fin.ext; fin_cases a
  · show 256 * t.val + 1 * k.val = 256 * t.val + k.val; omega
  · show 0 + 1 * r.val = r.val; omega

theorem xtT_apply (t : Fin 8) (k r : Fin 256) : xtT harg14 xt t (ix2 k r) = xt (ix2 ⟨256 * t.val + k.val, by omega⟩ r) :=
  (harg14.readAt_unread xt (Rect.unit (s := S2048x256) ![256 * t.val, 0] S256x256.size (inbX t.isLt)).toLoadRect (ix2 k r)).trans (congrArg xt (row_idx t k r _))

theorem xtC_apply (inb) (t : Fin 8) (k r : Fin 256) : xtC xt arg14 inb t (ix2 k r) = xt (ix2 ⟨256 * t.val + k.val, by omega⟩ r) := by
  unfold xtC
  rw [View.readCov_eq_canon', View.canon_cons_unit_lit' _ _ _ zero2]
  exact congrArg xt (row_idx t k r _)

theorem ddT_apply (t : Fin 8) (k : Fin 256) (j : Fin 512) : ddT harg4 x3 t (ix2 k j) = x3 (ix2 ⟨256 * t.val + k.val, by omega⟩ j) :=
  (harg4.readAt_unread x3 (Rect.unit (s := S2048x512) ![256 * t.val, 0] S256x512.size (inbD t.isLt)).toLoadRect (ix2 k j)).trans (congrArg x3 (row_idx t k j _))

end

set_option maxRecDepth 20000
set_option maxHeartbeats 4000000

variable (c : Dev nD) (arg1 : Memref sig .tc .vmem S256x2048 .fp8e4m3) (harg1 : arg1.IsWhole) (arg2 : Memref sig .tc .vmem S1x256 .f32) (harg2 : arg2.IsWhole)
  (arg3 : Memref sig .tc .vmem S2048x512 .bf16) (harg3 : arg3.IsWhole) (arg4 : Memref sig .tc .vmem S2048x512 .f32) (harg4 : arg4.IsWhole)
  (arg9 : Memref sig .tc .vmem S256x512 .bf16) (harg9 : arg9.IsWhole) (arg13 : Memref sig .tc .vmem S256x2048 .bf16) (harg13 : arg13.IsWhole)
  (arg14 : Memref sig .tc .vmem S2048x256 .bf16) (harg14 : arg14.IsWhole) (arg15 : Memref sig .tc .vmem S256x128 .f32) (harg15 : arg15.IsWhole)
  (x0 : Vec Ideal S256x2048 .fp8e4m3) (x1 : Vec Ideal S1x256 .f32) (x2 : Vec Ideal S2048x512 .bf16)
  (x3 : Vec Ideal S2048x512 .f32) (x4 x5 x6 x7 : Vec Ideal S16x512 .f32) (x8 : Vec Ideal S256x512 .bf16)
  (xb : Vec Ideal S256x2048 .bf16) (xt : Vec Ideal S2048x256 .bf16) (xs : Vec Ideal S256x128 .f32)

/-- The slabs of a middle grid point. -/
theorem slabs_B (h : Held x0 x1 xb xt xs) : Slabs (PN (col x0 x1 x2 x3 x4 x5 x6 x7 x8))
    (kernelRun0_B.sl.HS3_64 (F := Ideal) c arg3 harg3 arg4 harg4 arg9 harg9 arg13 harg13 arg14 harg14 arg15 harg15 x2 x3 x8 xb xt xs) := by
  have hpr (t : Fin 8) (k : Fin 256) (j : Fin 512) : prodT (xtT harg14 xt t)
      (k0_pay12 (View.readAt (Elt Ideal) arg13.view (Rect.unit (s := S256x2048) ![0, 0] S256x2048.size inb_S256x2048_S256x2048_0_0).toLoadRect (harg13.unread xb))
        (View.readAt (Elt Ideal) arg3.view (Rect.unit (s := S2048x512) ![0, 0] S2048x512.size inb_S2048x512_S2048x512_0_0).toLoadRect (harg3.unread x2))
        (View.readAt (Elt Ideal) arg15.view (Rect.unit (s := S256x128) ![0, 0] S256x128.size inb_S256x128_S256x128_0_0).toLoadRect (harg15.unread xs))
        (View.readAt (Elt Ideal) arg9.view (Rect.unit (s := S256x512) ![0, 0] S256x512.size inb_S256x512_S256x512_0_0).toLoadRect (harg9.unread x8)))
      (ddT harg4 x3 t) (ix2 k j) = PN (col x0 x1 x2 x3 x4 x5 x6 x7 x8) (256 * t.val + k.val) j.val := by
    rw [read_whole harg13 xb _ zero2, read_whole harg3 x2 _ zero2, read_whole harg15 xs _ zero2, read_whole harg9 x8 _ zero2]
    exact prodT_eq x2 x3 x4 x5 x6 x7 x8 h t _ _ (xtT_apply harg14 xt t) (ddT_apply harg4 x3 t) k j
  refine ⟨?_, rfl⟩
  unfold kernelRun0_B.sl.HS3_64 kernelRun0_B.sl.HS3_63 kernelRun0_B.sl.HS3_62 kernelRun0_B.sl.HS3_61 kernelRun0_B.sl.HS3_60
  iterate 64
    refine slab_cons _ _ hpr rfl rfl (by decide) (by decide) (by decide) rfl rfl rfl (by exact rfl) ?_
  trivial

/-- The last grid point stores the same. -/
theorem slabs_C (h : Held x0 x1 xb xt xs) : Slabs (PN (col x0 x1 x2 x3 x4 x5 x6 x7 x8))
    (kernelRun0_C.sl.HS3_64 (F := Ideal) c arg3 harg3 arg4 harg4 arg9 harg9 arg13 harg13 arg14 harg14 arg15 harg15 x2 x3 x8 xb xt xs) :=
  slabs_B c arg3 harg3 arg4 harg4 arg9 harg9 arg13 harg13 arg14 harg14 arg15 harg15 x0 x1 x2 x3 x4 x5 x6 x7 x8 xb xt xs h

/-- The slabs of the first grid point. -/
theorem slabs_A : Slabs (PN (col x0 x1 x2 x3 x4 x5 x6 x7 x8))
    (kernelRun0_A.sl.HS3_64 (F := Ideal) c arg1 harg1 arg2 harg2 arg3 harg3 arg4 harg4 arg9 harg9 arg13 arg14 arg15 x0 x1 x2 x3 x8) := by
  have hpr (t : Fin 8) (k : Fin 256) (j : Fin 512) : prodT
      (xtC (k0_pay6 (View.readAt (Elt Ideal) arg1.view (Rect.unit (s := S256x2048) ![0, 0] S256x2048.size inb_S256x2048_S256x2048_0_0).toLoadRect (harg1.unread x0))) arg14 inb_S2048x256_S2048x256_0_0 t)
      (k0_pay12 (kernelRun0_A.sl.v3 (F := Ideal) c arg1 harg1 arg13 x0)
        (View.readAt (Elt Ideal) arg3.view (Rect.unit (s := S2048x512) ![0, 0] S2048x512.size inb_S2048x512_S2048x512_0_0).toLoadRect (harg3.unread x2))
        (kernelRun0_A.sl.v6 (F := Ideal) c arg2 harg2 arg15 x1)
        (View.readAt (Elt Ideal) arg9.view (Rect.unit (s := S256x512) ![0, 0] S256x512.size inb_S256x512_S256x512_0_0).toLoadRect (harg9.unread x8)))
      (ddT harg4 x3 t) (ix2 k j) = PN (col x0 x1 x2 x3 x4 x5 x6 x7 x8) (256 * t.val + k.val) j.val := by
    unfold kernelRun0_A.sl.v3 kernelRun0_A.sl.v6 kernelRun0_A.sl.HS0_1 kernelRun0_A.sl.HS2_1
    rw [read_whole harg1 x0 _ zero2, read_whole harg2 x1 _ zero2, read_whole harg3 x2 _ zero2, read_whole harg9 x8 _ zero2,
      View.readCov_unit_lit' _ _ _ zero2, View.readCov_unit_lit' _ _ _ zero2]
    exact prodT_eq x2 x3 x4 x5 x6 x7 x8 (held_first x0 x1) t _ _ (xtC_apply _ _ t) (ddT_apply harg4 x3 t) k j
  refine ⟨?_, rfl⟩
  unfold kernelRun0_A.sl.HS3_64 kernelRun0_A.sl.HS3_63 kernelRun0_A.sl.HS3_62 kernelRun0_A.sl.HS3_61 kernelRun0_A.sl.HS3_60
  iterate 64
    refine slab_cons _ _ hpr rfl rfl (by decide) (by decide) (by decide) rfl rfl rfl (by exact rfl) ?_
  trivial

end Cert.Stores

end
-- ==== Proof.Grads.lean ====
/- The two gradients of one grid point: made in tiles of eight groups by 128 columns from the slabs, every tile a tile of
one array, written element by element with `Chn`. And what a grid point adds to the squared error. -/
module

public import proofs.«01_k».proof.Proof.Stores
public import Idealize.ShloMosaic.Lib.Pipeline.ReadBack

@[expose] public section

noncomputable section

namespace Cert.Grads

open Idealize.ShloMosaic Cert.ProductsIdeal Cert.ProductsIdeal.Gen Cert.Chain Cert.Err Cert.Sums Cert.Stores
open Idealize.ShloMosaic.TcCoe Idealize.ShloMosaic.Tactic Idealize.SL Idealize.SL.Sem

theorem tree_sum8 (f : Fin 8 → EReal) : ((f 0 + f 1) + (f 2 + f 3)) + ((f 4 + f 5) + (f 6 + f 7)) = ∑ s, f s := by
  rw [Fin.sum_univ_eight]; simp only [add_assoc]

theorem ofBits_one : Ideal.ofBits .f32 1065353216#32 = (1 : EReal) := by
  exact Ideal.ofBits_one_f32

theorem ofBits_zero : Ideal.ofBits .f32 0#32 = (0 : EReal) := by
  simp [Ideal.ofBits, Ideal.ieee, -EReal.coe_mul]

/-- The group and the column of an element of a tile. -/
abbrev gi {half : ℕ} (hh : half < 2) (x : S8x128.Idx) : Fin 16 :=
  ⟨8 * half + (x 0).val, by have : (x 0).val < 8 := (x 0).isLt; omega⟩
abbrev ji {t : ℕ} (ht : t < 4) (x : S8x128.Idx) : Fin 512 :=
  ⟨128 * t + (x 1).val, by have : (x 1).val < 128 := (x 1).isLt; omega⟩

theorem inbSlab {t : ℕ} (ht : t < 4) (a : Fin 4) :
    (![2, t, 0, 0] : Fin 4 → ℕ) a + S1x1x136x128.size a ≤ S3x4x136x128.size a := by
  fin_cases a
  · show 2 + 1 ≤ 3; omega
  · show t + 1 ≤ 4; omega
  · exact Nat.le_refl 136
  · exact Nat.le_refl 128

theorem inbLoad {half : ℕ} (hh : half < 2) (s : Fin 8) (a : Fin 2) :
    (![17 * s.val + 8 * half, 0] : Fin 2 → ℕ) a + S8x128.size a ≤ S136x128.size a := by
  fin_cases a
  · show 17 * s.val + 8 * half + 8 ≤ 136; omega
  · exact Nat.le_refl 128

theorem inbPar {t half : ℕ} (ht : t < 4) (hh : half < 2) (a : Fin 2) :
    (![8 * half, 128 * t] : Fin 2 → ℕ) a + S8x128.size a ≤ S16x512.size a := by
  fin_cases a
  · show 8 * half + 8 ≤ 16; omega
  · show 128 * t + 128 ≤ 512; omega

theorem lift3 : ∀ i : Fin 2, (![1, 136, 128] : Fin 3 → ℕ) i.succ = (![136, 128] : Fin 2 → ℕ) i := by decide
theorem lift4 : ∀ i : Fin 3, (![1, 1, 136, 128] : Fin 4 → ℕ) i.succ = (![1, 136, 128] : Fin 3 → ℕ) i := by decide

section
variable (arg5 : Memref sig .tc .vmem S16x512 .f32) (harg5 : arg5.IsWhole) (arg6 : Memref sig .tc .vmem S16x512 .f32) (harg6 : arg6.IsWhole)
  (arg7 : Memref sig .tc .vmem S16x512 .f32) (harg7 : arg7.IsWhole) (arg8 : Memref sig .tc .vmem S16x512 .f32) (harg8 : arg8.IsWhole)
  (arg16 : Memref sig .tc .vmem S3x4x136x128 .f32) (H : List (View.Piece (Elt Ideal) S3x4x136x128 .f32))
  (x0 : Vec Ideal S256x2048 .fp8e4m3) (x1 : Vec Ideal S1x256 .f32) (x2 : Vec Ideal S2048x512 .bf16)
  (x3 : Vec Ideal S2048x512 .f32) (x4 x5 x6 x7 : Vec Ideal S16x512 .f32) (x8 : Vec Ideal S256x512 .bf16)

/-- Eight groups' rows of sublane `s`, read back from a slab. -/
abbrev ldT {t half : ℕ} (ht : t < 4) (hh : half < 2) (s : Fin 8) : FVec Ideal S8x128 .f32 :=
  LoadRect.valAlong
    (lr := (Rect.unit (s := S136x128) ![17 * s.val + 8 * half, 0] S8x128.size (inbLoad hh s)).toLoadRect)
    (LR := (Rect.unit (s := S3x4x136x128) ![2, t, 0, 0] S1x1x136x128.size (inbSlab ht)).withinL
      (((Rect.unit (s := S136x128) ![17 * s.val + 8 * half, 0] S8x128.size (inbLoad hh s)).toLoadRect.consLift ![1, 136, 128] rfl lift3).consLift ![1, 1, 136, 128] rfl lift4)
      (fun _ => rfl))
    ((LoadRect.numel_consLift _ _ rfl lift3).trans (LoadRect.numel_consLift _ _ rfl lift4))
    (arg16.view.readCov H
      ((Rect.unit (s := S3x4x136x128) ![2, t, 0, 0] S1x1x136x128.size (inbSlab ht)).withinL
        (((Rect.unit (s := S136x128) ![17 * s.val + 8 * half, 0] S8x128.size (inbLoad hh s)).toLoadRect.consLift ![1, 136, 128] rfl lift3).consLift ![1, 1, 136, 128] rfl lift4)
        (fun _ => rfl)))

/-- The sum of eight tiles, in the kernel's order. -/
abbrev sum8 (R : Fin 8 → FVec Ideal S8x128 .f32) : FVec Ideal S8x128 .f32 :=
  addf (addf (addf (R 0) (R 1)) (addf (R 2) (R 3))) (addf (addf (R 4) (R 5)) (addf (R 6) (R 7)))

/-- The gradient of the step. -/
abbrev sT {t half : ℕ} (ht : t < 4) (hh : half < 2) : FVec Ideal S8x128 .f32 :=
  mulf (sum8 (ldT arg16 H ht hh)) (broadcast S8x128 (FloatOps.ofBits .f32 901394060#32))

/-- A tile of a block of sixteen groups. -/
abbrev parT {arg : Memref sig .tc .vmem S16x512 .f32} (harg : arg.IsWhole) (x : Vec Ideal S16x512 .f32) {t half : ℕ} (ht : t < 4) (hh : half < 2) : FVec Ideal S8x128 .f32 :=
  View.readAt (Elt Ideal) arg.view (Rect.unit (s := S16x512) ![8 * half, 128 * t] S8x128.size (inbPar ht hh)).toLoadRect (harg.unread x)

/-- The sigmoid, as the kernel takes it. -/
abbrev sigT (v : FVec Ideal S8x128 .f32) : FVec Ideal S8x128 .f32 :=
  divf (broadcast S8x128 (FloatOps.ofBits .f32 1065353216#32)) (addf (broadcast S8x128 (FloatOps.ofBits .f32 1065353216#32))
    (exp (subf (broadcast S8x128 (FloatOps.ofBits .f32 0#32)) v)))

/-- The chain from the gradient of the step, or its negation, to that of a parameter. -/
abbrev chainT (s p q : FVec Ideal S8x128 .f32) : FVec Ideal S8x128 .f32 :=
  divf (mulf (mulf (mulf s (sigT p)) (subf (broadcast S8x128 (FloatOps.ofBits .f32 1065353216#32)) (sigT p))) q)
    (broadcast S8x128 (FloatOps.ofBits .f32 1097859072#32))

abbrev dgT {t half : ℕ} (ht : t < 4) (hh : half < 2) : FVec Ideal S8x128 .f32 :=
  chainT (sT arg16 H ht hh) (parT harg7 x6 ht hh) (parT harg5 x4 ht hh)
abbrev dbT {t half : ℕ} (ht : t < 4) (hh : half < 2) : FVec Ideal S8x128 .f32 :=
  chainT (subf (broadcast S8x128 (FloatOps.ofBits .f32 0#32)) (sT arg16 H ht hh)) (parT harg8 x7 ht hh) (parT harg6 x5 ht hh)

theorem sig_apply (v : FVec Ideal S8x128 .f32) (x : S8x128.Idx) : sigT v x = Ideal.logistic (v x) := by
  show Ideal.div (Ideal.ofBits .f32 1065353216#32) (Ideal.ofBits .f32 1065353216#32 + Ideal.exp (Ideal.ofBits .f32 0#32 - v x)) = _
  rw [ofBits_one, ofBits_zero, zero_sub]
  rfl

theorem parT_apply {arg : Memref sig .tc .vmem S16x512 .f32} (harg : arg.IsWhole) (X : Vec Ideal S16x512 .f32) {t half : ℕ} (ht : t < 4) (hh : half < 2) (x : S8x128.Idx) :
    parT harg X ht hh x = X (ix2 (gi hh x) (ji ht x)) := by
  refine (harg.readAt_unread X (Rect.unit (s := S16x512) ![8 * half, 128 * t] S8x128.size (inbPar ht hh)).toLoadRect x).trans (congrArg X ?_)
  funext a; apply Fin.ext; fin_cases a
  · show 8 * half + 1 * (x 0).val = 8 * half + (x 0).val; omega
  · show 128 * t + 1 * (x 1).val = 128 * t + (x 1).val; omega

theorem chainT_apply (s p q : FVec Ideal S8x128 .f32) (x : S8x128.Idx) :
    chainT s p q x = Ideal.div (s x * Ideal.logistic (p x) * (1 - Ideal.logistic (p x)) * q x) qmax := by
  rw [← sig_apply, ← ofBits_one]
  rfl

variable {H}

theorem sT_apply (hH : Slabs (PN (col x0 x1 x2 x3 x4 x5 x6 x7 x8)) H) {t half : ℕ} (ht : t < 4) (hh : half < 2) (x : S8x128.Idx) :
    sT arg16 H ht hh x = ((col x0 x1 x2 x3 x4 x5 x6 x7 x8) (ji ht x)).s (gi hh x) := by
  rw [Chn.s_eq, ← sum_slab (col x0 x1 x2 x3 x4 x5 x6 x7 x8) (gi hh x) (ji ht x) (t := t) (l := (x 1).val) (by show 128 * t + (x 1).val = _; omega), ← tree_sum8]
  have e (s : Fin 8) : ldT arg16 H ht hh s x = gN (PN (col x0 x1 x2 x3 x4 x5 x6 x7 x8)) t (8 * half + (x 0).val) s.val (x 1).val :=
    load_apply hH arg16 rfl rfl s.val half rfl hh _ x
  simp only [← e]
  rfl

theorem dgT_apply (hH : Slabs (PN (col x0 x1 x2 x3 x4 x5 x6 x7 x8)) H) {t half : ℕ} (ht : t < 4) (hh : half < 2) (x : S8x128.Idx) :
    dgT arg5 harg5 arg7 harg7 arg16 H x4 x6 ht hh x = ((col x0 x1 x2 x3 x4 x5 x6 x7 x8) (ji ht x)).dg (gi hh x) := by
  refine (chainT_apply _ _ _ x).trans ?_
  rw [sT_apply arg16 x0 x1 x2 x3 x4 x5 x6 x7 x8 hH ht hh, parT_apply, parT_apply]
  rfl

theorem dbT_apply (hH : Slabs (PN (col x0 x1 x2 x3 x4 x5 x6 x7 x8)) H) {t half : ℕ} (ht : t < 4) (hh : half < 2) (x : S8x128.Idx) :
    dbT arg6 harg6 arg8 harg8 arg16 H x5 x7 ht hh x = ((col x0 x1 x2 x3 x4 x5 x6 x7 x8) (ji ht x)).db (gi hh x) := by
  refine (chainT_apply _ _ _ x).trans ?_
  rw [parT_apply, parT_apply, show subf (broadcast S8x128 (FloatOps.ofBits .f32 0#32)) (sT arg16 H ht hh) x
      = Ideal.ofBits .f32 0#32 - sT arg16 H ht hh x from rfl, sT_apply arg16 x0 x1 x2 x3 x4 x5 x6 x7 x8 hH ht hh, ofBits_zero]
  rfl

end

/-- The two gradients of a block. -/
def gG (C : Fin 512 → Chn) (y : S16x512.Idx) : EReal := (C (y 1)).dg (y 0)
def gB (C : Fin 512 → Chn) (y : S16x512.Idx) : EReal := (C (y 1)).db (y 0)

theorem emb_tile {t half : ℕ} (ht : t < 4) (hh : half < 2) {o : Fin 2 → ℕ} (eo : o = ![8 * half, 128 * t]) {inb} (x : S8x128.Idx) :
    (Rect.unit (s := S16x512) o S8x128.size inb).emb x = ix2 (gi hh x) (ji ht x) := by
  subst eo
  funext a; apply Fin.ext; fin_cases a
  · show 8 * half + 1 * (x 0).val = 8 * half + (x 0).val; omega
  · show 128 * t + 1 * (x 1).val = 128 * t + (x 1).val; omega

/-- The eight tiles of an array, in the order of the stores from the last to the first. -/
theorem pieces8 (G : S16x512.Idx → EReal) (F : ∀ {t half : ℕ} (_ : t < 4) (_ : half < 2), FVec Ideal S8x128 .f32)
    (hF : ∀ {t half : ℕ} (ht : t < 4) (hh : half < 2) (x : S8x128.Idx), F ht hh x = G (ix2 (gi hh x) (ji ht x)))
    {i0 i1 i2 i3 i4 i5 i6 i7} {T0 T1 T2 T3 T4 T5 T6 T7 : FVec Ideal S8x128 .f32}
    (e7 : T7 = F (t := 3) (half := 1) (by decide) (by decide)) (e6 : T6 = F (t := 3) (half := 0) (by decide) (by decide))
    (e5 : T5 = F (t := 2) (half := 1) (by decide) (by decide)) (e4 : T4 = F (t := 2) (half := 0) (by decide) (by decide))
    (e3 : T3 = F (t := 1) (half := 1) (by decide) (by decide)) (e2 : T2 = F (t := 1) (half := 0) (by decide) (by decide))
    (e1 : T1 = F (t := 0) (half := 1) (by decide) (by decide)) (e0 : T0 = F (t := 0) (half := 0) (by decide) (by decide)) :
    View.PiecesOf (Val := Elt Ideal) (e := .f32) G
      [⟨Rect.unit (s := S16x512) ![8, 384] S8x128.size i7, T7⟩, ⟨Rect.unit (s := S16x512) ![0, 384] S8x128.size i6, T6⟩,
       ⟨Rect.unit (s := S16x512) ![8, 256] S8x128.size i5, T5⟩, ⟨Rect.unit (s := S16x512) ![0, 256] S8x128.size i4, T4⟩,
       ⟨Rect.unit (s := S16x512) ![8, 128] S8x128.size i3, T3⟩, ⟨Rect.unit (s := S16x512) ![0, 128] S8x128.size i2, T2⟩,
       ⟨Rect.unit (s := S16x512) ![8, 0] S8x128.size i1, T1⟩, ⟨Rect.unit (s := S16x512) ![0, 0] S8x128.size i0, T0⟩] := by
  subst e0 e1 e2 e3 e4 e5 e6 e7
  have key {t half : ℕ} (ht : t < 4) (hh : half < 2) {o : Fin 2 → ℕ} (eo : o = ![8 * half, 128 * t]) (inb) (x : S8x128.Idx) :
      F ht hh x = G ((Rect.unit (s := S16x512) o S8x128.size inb).emb x) := by rw [emb_tile ht hh eo]; exact hF ht hh x
  exact ⟨key _ _ rfl i7, key _ _ rfl i6, key _ _ rfl i5, key _ _ rfl i4, key _ _ rfl i3, key _ _ rfl i2, key _ _ rfl i1, key _ _ rfl i0, trivial⟩

/-- The eight tiles cover the array. -/
theorem cover8 {i0 i1 i2 i3 i4 i5 i6 i7} {T0 T1 T2 T3 T4 T5 T6 T7 : FVec Ideal S8x128 .f32} (y : S16x512.Idx) :
    ∃ q ∈ ([⟨Rect.unit (s := S16x512) ![8, 384] S8x128.size i7, T7⟩, ⟨Rect.unit (s := S16x512) ![0, 384] S8x128.size i6, T6⟩,
       ⟨Rect.unit (s := S16x512) ![8, 256] S8x128.size i5, T5⟩, ⟨Rect.unit (s := S16x512) ![0, 256] S8x128.size i4, T4⟩,
       ⟨Rect.unit (s := S16x512) ![8, 128] S8x128.size i3, T3⟩, ⟨Rect.unit (s := S16x512) ![0, 128] S8x128.size i2, T2⟩,
       ⟨Rect.unit (s := S16x512) ![8, 0] S8x128.size i1, T1⟩, ⟨Rect.unit (s := S16x512) ![0, 0] S8x128.size i0, T0⟩] :
       List (View.Piece (Elt Ideal) S16x512 .f32)), y ∈ q.1.set := by
  have l0 : (y 0).val < 16 := (y 0).isLt
  have l1 : (y 1).val < 512 := (y 1).isLt
  have key {a b : ℕ} (inb) (h0 : a ≤ (y 0).val) (h1 : (y 0).val < a + 8) (h2 : b ≤ (y 1).val) (h3 : (y 1).val < b + 128) :
      y ∈ (Rect.unit (s := S16x512) ![a, b] S8x128.size inb).set := by
    rw [Rect.mem_set_unit]; intro i; fin_cases i
    · exact ⟨h0, h1⟩
    · exact ⟨h2, h3⟩
  by_cases ha : (y 0).val < 8 <;> by_cases hb : (y 1).val < 256
  · by_cases hc : (y 1).val < 128
    · exact ⟨_, .tail _ (.tail _ (.tail _ (.tail _ (.tail _ (.tail _ (.tail _ (List.Mem.head _))))))), key i0 (by omega) (by omega) (by omega) (by omega)⟩
    · exact ⟨_, .tail _ (.tail _ (.tail _ (.tail _ (.tail _ (List.Mem.head _))))), key i2 (by omega) (by omega) (by omega) (by omega)⟩
  · by_cases hc : (y 1).val < 384
    · exact ⟨_, .tail _ (.tail _ (.tail _ (List.Mem.head _))), key i4 (by omega) (by omega) (by omega) (by omega)⟩
    · exact ⟨_, .tail _ (List.Mem.head _), key i6 (by omega) (by omega) (by omega) (by omega)⟩
  · by_cases hc : (y 1).val < 128
    · exact ⟨_, .tail _ (.tail _ (.tail _ (.tail _ (.tail _ (.tail _ (List.Mem.head _)))))), key i1 (by omega) (by omega) (by omega) (by omega)⟩
    · exact ⟨_, .tail _ (.tail _ (.tail _ (.tail _ (List.Mem.head _)))), key i3 (by omega) (by omega) (by omega) (by omega)⟩
  · by_cases hc : (y 1).val < 384
    · exact ⟨_, .tail _ (.tail _ (List.Mem.head _)), key i5 (by omega) (by omega) (by omega) (by omega)⟩
    · exact ⟨_, List.Mem.head _, key i7 (by omega) (by omega) (by omega) (by omega)⟩

/-- So the eight stores leave the array. -/
theorem canon8 (G : S16x512.Idx → EReal) (F : ∀ {t half : ℕ} (_ : t < 4) (_ : half < 2), FVec Ideal S8x128 .f32)
    (hF : ∀ {t half : ℕ} (ht : t < 4) (hh : half < 2) (x : S8x128.Idx), F ht hh x = G (ix2 (gi hh x) (ji ht x)))
    {i0 i1 i2 i3 i4 i5 i6 i7} {T0 T1 T2 T3 T4 T5 T6 T7 : FVec Ideal S8x128 .f32}
    (e7 : T7 = F (t := 3) (half := 1) (by decide) (by decide)) (e6 : T6 = F (t := 3) (half := 0) (by decide) (by decide))
    (e5 : T5 = F (t := 2) (half := 1) (by decide) (by decide)) (e4 : T4 = F (t := 2) (half := 0) (by decide) (by decide))
    (e3 : T3 = F (t := 1) (half := 1) (by decide) (by decide)) (e2 : T2 = F (t := 1) (half := 0) (by decide) (by decide))
    (e1 : T1 = F (t := 0) (half := 1) (by decide) (by decide)) (e0 : T0 = F (t := 0) (half := 0) (by decide) (by decide)) :
    View.canon (Val := Elt Ideal) (e := .f32)
      [⟨Rect.unit (s := S16x512) ![8, 384] S8x128.size i7, T7⟩, ⟨Rect.unit (s := S16x512) ![0, 384] S8x128.size i6, T6⟩,
       ⟨Rect.unit (s := S16x512) ![8, 256] S8x128.size i5, T5⟩, ⟨Rect.unit (s := S16x512) ![0, 256] S8x128.size i4, T4⟩,
       ⟨Rect.unit (s := S16x512) ![8, 128] S8x128.size i3, T3⟩, ⟨Rect.unit (s := S16x512) ![0, 128] S8x128.size i2, T2⟩,
       ⟨Rect.unit (s := S16x512) ![8, 0] S8x128.size i1, T1⟩, ⟨Rect.unit (s := S16x512) ![0, 0] S8x128.size i0, T0⟩] = G :=
  funext fun y => View.canon_apply_of_pieces G _ (pieces8 G F hF e7 e6 e5 e4 e3 e2 e1 e0).mem y (cover8 y)

set_option maxRecDepth 20000
set_option maxHeartbeats 4000000

variable (c : Dev nD) (i : grid0.Coords) (arg1 : Memref sig .tc .vmem S256x2048 .fp8e4m3) (harg1 : arg1.IsWhole) (arg2 : Memref sig .tc .vmem S1x256 .f32) (harg2 : arg2.IsWhole) (arg3 : Memref sig .tc .vmem S2048x512 .bf16) (harg3 : arg3.IsWhole) (arg4 : Memref sig .tc .vmem S2048x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S256x512 .bf16) (harg9 : arg9.IsWhole) (arg10 : Memref sig .tc .vmem S16x512 .f32) (harg10 : arg10.IsWhole) (arg11 : Memref sig .tc .vmem S16x512 .f32) (harg11 : arg11.IsWhole) (arg12 : Memref sig .tc .vmem S1x1 .f32) (harg12 : arg12.IsWhole) (arg13 : Memref sig .tc .vmem S256x2048 .bf16) (harg13 : arg13.IsWhole) (arg14 : Memref sig .tc .vmem S2048x256 .bf16) (harg14 : arg14.IsWhole) (arg15 : Memref sig .tc .vmem S256x128 .f32) (harg15 : arg15.IsWhole) (arg16 : Memref sig .tc .vmem S3x4x136x128 .f32) (harg16 : arg16.IsWhole) (arg17 : Memref sig .tc .vmem S8x512 .f32) (harg17 : arg17.IsWhole)
  (x0 : Vec Ideal S256x2048 .fp8e4m3) (x1 : Vec Ideal S1x256 .f32) (x2 : Vec Ideal S2048x512 .bf16)
  (x3 : Vec Ideal S2048x512 .f32) (x4 x5 x6 x7 : Vec Ideal S16x512 .f32) (x8 : Vec Ideal S256x512 .bf16)
  (xb : Vec Ideal S256x2048 .bf16) (xt : Vec Ideal S2048x256 .bf16) (xs : Vec Ideal S256x128 .f32) (xl : Vec Ideal S8x512 .f32)

/-- The gammas' gradients at the first grid point. -/
theorem out_A_9 (hc0 : cond0_0 i) (hc1 : ¬cond0_1 i) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = gG (col x0 x1 x2 x3 x4 x5 x6 x7 x8) := by
  have hH := (slabs_A c arg1 harg1 arg2 harg2 arg3 harg3 arg4 harg4 arg9 harg9 arg13 arg14 arg15 x0 x1 x2 x3 x4 x5 x6 x7 x8)
  unfold out0_A_9
  rw [View.read_writes_junk_eq_canon]
  unfold kernelRun0_A
  exact canon8 (gG (col x0 x1 x2 x3 x4 x5 x6 x7 x8)) (fun ht hh => dgT arg5 harg5 arg7 harg7 arg16 _ x4 x6 ht hh)
    (fun ht hh x => dgT_apply arg5 harg5 arg7 harg7 arg16 x0 x1 x2 x3 x4 x5 x6 x7 x8 hH ht hh x) rfl rfl rfl rfl rfl rfl rfl rfl

/-- The betas' gradients at the first grid point. -/
theorem out_A_10 (hc0 : cond0_0 i) (hc1 : ¬cond0_1 i) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = gB (col x0 x1 x2 x3 x4 x5 x6 x7 x8) := by
  have hH := (slabs_A c arg1 harg1 arg2 harg2 arg3 harg3 arg4 harg4 arg9 harg9 arg13 arg14 arg15 x0 x1 x2 x3 x4 x5 x6 x7 x8)
  unfold out0_A_10
  rw [View.read_writes_junk_eq_canon]
  unfold kernelRun0_A
  exact canon8 (gB (col x0 x1 x2 x3 x4 x5 x6 x7 x8)) (fun ht hh => dbT arg6 harg6 arg8 harg8 arg16 _ x5 x7 ht hh)
    (fun ht hh x => dbT_apply arg6 harg6 arg8 harg8 arg16 x0 x1 x2 x3 x4 x5 x6 x7 x8 hH ht hh x) rfl rfl rfl rfl rfl rfl rfl rfl

/-- The gammas' gradients at a grid point in the middle. -/
theorem out_B_9 (h : Held x0 x1 xb xt xs) (hc0 : ¬cond0_0 i) (hc1 : ¬cond0_1 i) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xb xt xs xl = gG (col x0 x1 x2 x3 x4 x5 x6 x7 x8) := by
  have hH := (slabs_B c arg3 harg3 arg4 harg4 arg9 harg9 arg13 harg13 arg14 harg14 arg15 harg15 x0 x1 x2 x3 x4 x5 x6 x7 x8 xb xt xs h)
  unfold out0_B_9
  rw [View.read_writes_junk_eq_canon]
  unfold kernelRun0_B
  exact canon8 (gG (col x0 x1 x2 x3 x4 x5 x6 x7 x8)) (fun ht hh => dgT arg5 harg5 arg7 harg7 arg16 _ x4 x6 ht hh)
    (fun ht hh x => dgT_apply arg5 harg5 arg7 harg7 arg16 x0 x1 x2 x3 x4 x5 x6 x7 x8 hH ht hh x) rfl rfl rfl rfl rfl rfl rfl rfl

/-- The betas' gradients at a grid point in the middle. -/
theorem out_B_10 (h : Held x0 x1 xb xt xs) (hc0 : ¬cond0_0 i) (hc1 : ¬cond0_1 i) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xb xt xs xl = gB (col x0 x1 x2 x3 x4 x5 x6 x7 x8) := by
  have hH := (slabs_B c arg3 harg3 arg4 harg4 arg9 harg9 arg13 harg13 arg14 harg14 arg15 harg15 x0 x1 x2 x3 x4 x5 x6 x7 x8 xb xt xs h)
  unfold out0_B_10
  rw [View.read_writes_junk_eq_canon]
  unfold kernelRun0_B
  exact canon8 (gB (col x0 x1 x2 x3 x4 x5 x6 x7 x8)) (fun ht hh => dbT arg6 harg6 arg8 harg8 arg16 _ x5 x7 ht hh)
    (fun ht hh x => dbT_apply arg6 harg6 arg8 harg8 arg16 x0 x1 x2 x3 x4 x5 x6 x7 x8 hH ht hh x) rfl rfl rfl rfl rfl rfl rfl rfl

/-- The gammas' gradients at the last grid point. -/
theorem out_C_9 (h : Held x0 x1 xb xt xs) (hc0 : ¬cond0_0 i) (hc1 : cond0_1 i) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xb xt xs xl = gG (col x0 x1 x2 x3 x4 x5 x6 x7 x8) := by
  have hH := (slabs_C c arg3 harg3 arg4 harg4 arg9 harg9 arg13 harg13 arg14 harg14 arg15 harg15 x0 x1 x2 x3 x4 x5 x6 x7 x8 xb xt xs h)
  unfold out0_C_9
  rw [View.read_writes_junk_eq_canon]
  unfold kernelRun0_C
  exact canon8 (gG (col x0 x1 x2 x3 x4 x5 x6 x7 x8)) (fun ht hh => dgT arg5 harg5 arg7 harg7 arg16 _ x4 x6 ht hh)
    (fun ht hh x => dgT_apply arg5 harg5 arg7 harg7 arg16 x0 x1 x2 x3 x4 x5 x6 x7 x8 hH ht hh x) rfl rfl rfl rfl rfl rfl rfl rfl

/-- The betas' gradients at the last grid point. -/
theorem out_C_10 (h : Held x0 x1 xb xt xs) (hc0 : ¬cond0_0 i) (hc1 : cond0_1 i) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xb xt xs xl = gB (col x0 x1 x2 x3 x4 x5 x6 x7 x8) := by
  have hH := (slabs_C c arg3 harg3 arg4 harg4 arg9 harg9 arg13 harg13 arg14 harg14 arg15 harg15 x0 x1 x2 x3 x4 x5 x6 x7 x8 xb xt xs h)
  unfold out0_C_10
  rw [View.read_writes_junk_eq_canon]
  unfold kernelRun0_C
  exact canon8 (gB (col x0 x1 x2 x3 x4 x5 x6 x7 x8)) (fun ht hh => dbT arg6 harg6 arg8 harg8 arg16 _ x5 x7 ht hh)
    (fun ht hh x => dbT_apply arg6 harg6 arg8 harg8 arg16 x0 x1 x2 x3 x4 x5 x6 x7 x8 hH ht hh x) rfl rfl rfl rfl rfl rfl rfl rfl

end Cert.Grads

end
-- ==== Proof.Carry.lean ====
/- What one grid point leaves for the next: the activations and their scales, and the squared errors so far; and the loss
at the last one. -/
module

public import proofs.«01_k».proof.Proof.Grads

@[expose] public section

noncomputable section

namespace Cert.Carry

open Idealize.ShloMosaic Cert.ProductsIdeal Cert.ProductsIdeal.Gen Cert.Chain Cert.Err Cert.Sums Cert.Stores
open Idealize.ShloMosaic.TcCoe Idealize.ShloMosaic.Tactic Idealize.SL Idealize.SL.Sem

set_option maxRecDepth 20000
set_option maxHeartbeats 4000000

variable (c : Dev nD) (i : grid0.Coords) (arg1 : Memref sig .tc .vmem S256x2048 .fp8e4m3) (harg1 : arg1.IsWhole) (arg2 : Memref sig .tc .vmem S1x256 .f32) (harg2 : arg2.IsWhole) (arg3 : Memref sig .tc .vmem S2048x512 .bf16) (harg3 : arg3.IsWhole) (arg4 : Memref sig .tc .vmem S2048x512 .f32) (harg4 : arg4.IsWhole) (arg5 : Memref sig .tc .vmem S16x512 .f32) (harg5 : arg5.IsWhole) (arg6 : Memref sig .tc .vmem S16x512 .f32) (harg6 : arg6.IsWhole) (arg7 : Memref sig .tc .vmem S16x512 .f32) (harg7 : arg7.IsWhole) (arg8 : Memref sig .tc .vmem S16x512 .f32) (harg8 : arg8.IsWhole) (arg9 : Memref sig .tc .vmem S256x512 .bf16) (harg9 : arg9.IsWhole) (arg10 : Memref sig .tc .vmem S16x512 .f32) (harg10 : arg10.IsWhole) (arg11 : Memref sig .tc .vmem S16x512 .f32) (harg11 : arg11.IsWhole) (arg12 : Memref sig .tc .vmem S1x1 .f32) (harg12 : arg12.IsWhole) (arg13 : Memref sig .tc .vmem S256x2048 .bf16) (harg13 : arg13.IsWhole) (arg14 : Memref sig .tc .vmem S2048x256 .bf16) (harg14 : arg14.IsWhole) (arg15 : Memref sig .tc .vmem S256x128 .f32) (harg15 : arg15.IsWhole) (arg16 : Memref sig .tc .vmem S3x4x136x128 .f32) (harg16 : arg16.IsWhole) (arg17 : Memref sig .tc .vmem S8x512 .f32) (harg17 : arg17.IsWhole)
  (x0 : Vec Ideal S256x2048 .fp8e4m3) (x1 : Vec Ideal S1x256 .f32) (x2 : Vec Ideal S2048x512 .bf16)
  (x3 : Vec Ideal S2048x512 .f32) (x4 x5 x6 x7 : Vec Ideal S16x512 .f32) (x8 : Vec Ideal S256x512 .bf16)
  (xb : Vec Ideal S256x2048 .bf16) (xt : Vec Ideal S2048x256 .bf16) (xs : Vec Ideal S256x128 .f32) (xl : Vec Ideal S8x512 .f32)

/-- The first grid point leaves the activations, the transposed ones and the scales. -/
theorem held_A (hc0 : cond0_0 i) (hc1 : ¬cond0_1 i) : Held x0 x1 (sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8) (sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8) (sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8) := by
  have e0 : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay5 x0 := by
    unfold sout0_A_0
    rw [View.read_writes_junk_eq_canon]
    unfold kernelRun0_A
    exact (View.canon_cons_unit_lit' _ _ _ zero2).trans (congrArg k0_pay5 (read_whole harg1 x0 _ zero2))
  have e1 : sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay6 x0 := by
    unfold sout0_A_1
    rw [View.read_writes_junk_eq_canon]
    unfold kernelRun0_A
    exact (View.canon_cons_unit_lit' _ _ _ zero2).trans (congrArg k0_pay6 (read_whole harg1 x0 _ zero2))
  have e2 : sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay7 x1 := by
    unfold sout0_A_2
    rw [View.read_writes_junk_eq_canon]
    unfold kernelRun0_A
    exact (View.canon_cons_unit_lit' _ _ _ zero2).trans (congrArg k0_pay7 (read_whole harg2 x1 _ zero2))
  rw [e0, e1, e2]
  exact held_first x0 x1

/-- The squared errors after the first grid point. -/
theorem acc_A (hc0 : cond0_0 i) (hc1 : ¬cond0_1 i) (s : Fin 8) (j : Fin 512) :
    sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 (ix2 s j) = sqs ((col x0 x1 x2 x3 x4 x5 x6 x7 x8) j) s := by
  have e : sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 = k0_pay11 (k0_pay5 x0) x2 (k0_pay7 x1) x8 (k0_pay8 (F := Ideal)) := by
    unfold sout0_A_4
    rw [View.read_writes_junk_eq_canon]
    unfold kernelRun0_A
    refine (View.canon_cons_unit_lit' _ _ _ zero2).trans ?_
    unfold kernelRun0_A.sl.v3 kernelRun0_A.sl.v6 kernelRun0_A.sl.HS0_1 kernelRun0_A.sl.HS2_1 kernelRun0_A.sl.v13 kernelRun0_A.sl.HS4_1
    rw [read_whole harg1 x0 _ zero2, read_whole harg2 x1 _ zero2, read_whole harg3 x2 _ zero2, read_whole harg9 x8 _ zero2,
      View.readCov_unit_lit' _ _ _ zero2, View.readCov_unit_lit' _ _ _ zero2, View.readCov_unit_lit' _ _ _ zero2]
  rw [e, acc_eq x2 x3 x4 x5 x6 x7 x8 (held_first x0 x1), acc_first, zero_add]

/-- The squared errors after a later grid point. -/
theorem acc_B (h : Held x0 x1 xb xt xs) (hc0 : ¬cond0_0 i) (hc1 : ¬cond0_1 i) (s : Fin 8) (j : Fin 512) :
    sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xb xt xs xl (ix2 s j) = xl (ix2 s j) + sqs ((col x0 x1 x2 x3 x4 x5 x6 x7 x8) j) s := by
  have e : sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xb xt xs xl = k0_pay11 xb x2 xs x8 xl := by
    unfold sout0_B_4
    rw [View.read_writes_junk_eq_canon]
    unfold kernelRun0_B
    dsimp only
    rw [View.canon_cons_unit_lit' _ _ _ zero2, read_whole harg13 xb _ zero2, read_whole harg3 x2 _ zero2,
      read_whole harg15 xs _ zero2, read_whole harg9 x8 _ zero2, read_whole harg17 xl _ zero2]
  rw [e, acc_eq x2 x3 x4 x5 x6 x7 x8 h]

/-- The squared errors after a later grid point. -/
theorem acc_C (h : Held x0 x1 xb xt xs) (hc0 : ¬cond0_0 i) (hc1 : cond0_1 i) (s : Fin 8) (j : Fin 512) :
    sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xb xt xs xl (ix2 s j) = xl (ix2 s j) + sqs ((col x0 x1 x2 x3 x4 x5 x6 x7 x8) j) s := by
  have e : sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xb xt xs xl = k0_pay11 xb x2 xs x8 xl := by
    unfold sout0_C_4
    rw [View.read_writes_junk_eq_canon]
    unfold kernelRun0_C
    dsimp only
    unfold kernelRun0_C.sl.HS4_1
    rw [View.canon_cons_unit_lit' _ _ _ zero2, read_whole harg13 xb _ zero2, read_whole harg3 x2 _ zero2,
      read_whole harg15 xs _ zero2, read_whole harg9 x8 _ zero2, read_whole harg17 xl _ zero2]
  rw [e, acc_eq x2 x3 x4 x5 x6 x7 x8 h]

/-- The loss. -/
theorem loss_C (h : Held x0 x1 xb xt xs) (hc0 : ¬cond0_0 i) (hc1 : cond0_1 i) (y : S1x1.Idx) :
    out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xb xt xs xl y = Ideal.div (∑ s : Fin 8, ∑ j : Fin 512, (xl (ix2 s j) + sqs ((col x0 x1 x2 x3 x4 x5 x6 x7 x8) j) s)) n_elem := by
  have e : out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 xb xt xs xl = k0_pay3 (k0_pay11 xb x2 xs x8 xl) := by
    unfold out0_C_11
    rw [View.read_writes_junk_eq_canon]
    unfold kernelRun0_C
    refine (View.canon_cons_unit_lit' _ _ _ zero2).trans (congrArg k0_pay3 ?_)
    unfold kernelRun0_C.sl.v1041 kernelRun0_C.sl.HS4_1
    rw [View.readCov_unit_lit' _ _ _ zero2, read_whole harg13 xb _ zero2, read_whole harg3 x2 _ zero2,
      read_whole harg15 xs _ zero2, read_whole harg9 x8 _ zero2, read_whole harg17 xl _ zero2]
  rw [e, loss_eq]
  refine congrArg (Ideal.div · n_elem) (Finset.sum_congr rfl fun s _ => Finset.sum_congr rfl fun j _ => ?_)
  exact acc_eq x2 x3 x4 x5 x6 x7 x8 h xl s j

end Cert.Carry

end
-- ==== Proof.Gradients.lean ====
/- The second reference's three results, index by index, as the columns of `Chn`. -/
module

public import proofs.«01_k».proof.Proof.Chain
public import proofs.«01_k».proof.Proof.Gen.GradientsIdeal.Value

@[expose] public section

noncomputable section

namespace Cert.Gradients

open Idealize.ShloMosaic Cert.GradientsIdeal Cert.GradientsIdeal.Gen Cert.GradientsIdeal.Value Cert.Chain

variable (a0 : Vec Ideal S256x2048 .fp8e4m3) (a1 : Vec Ideal S1x256 .f32) (a2 : Vec Ideal S2048x5632 .bf16)
  (a3 : Vec Ideal S2048x5632 .f32) (a4 a5 a6 a7 : Vec Ideal S16x5632 .f32) (a8 : Vec Ideal S256x5632 .bf16)

/-- Column `j` of the argument arrays. -/
def col (j : Fin 5632) : Chn where
  x r k := a0 (ix2 r k)
  sc r := a1 (ix2 0 r)
  w k := a2 (ix2 k j)
  d k := a3 (ix2 k j)
  y r := a8 (ix2 r j)
  mx g := a4 (ix2 g j)
  mn g := a5 (ix2 g j)
  ga g := a6 (ix2 g j)
  be g := a7 (ix2 g j)

theorem err_eq (r : Fin 256) (j : Fin 5632) : k0_pay5 a0 a2 a1 a8 (ix2 r j) = ((col a0 a1 a2 a3 a4 a5 a6 a7 a8) j).err r := by
  unfold k0_pay5 k0_pay3 k0_pay4; pointwise; rfl

theorem s_eq (g : Fin 16) (j : Fin 5632) : k0_pay7 a0 a2 a1 a8 a3 (ix2 g j) = ((col a0 a1 a2 a3 a4 a5 a6 a7 a8) j).s g := by
  unfold k0_pay7 k0_pay3 k0_pay4; pointwise
  simp only [err_eq a0 a1 a2 a3 a4 a5 a6 a7 a8]; rfl

theorem dg_eq (g : Fin 16) (j : Fin 5632) : G9 a0 a1 a2 a3 a4 a5 a6 a7 a8 (ix2 g j) = ((col a0 a1 a2 a3 a4 a5 a6 a7 a8) j).dg g := by
  unfold G9 k0_pay1 k0_pay10 k0_pay8; pointwise
  rw [s_eq a0 a1 a2 a3 a4 a5 a6 a7 a8]; rfl

theorem db_eq (g : Fin 16) (j : Fin 5632) : G10 a0 a1 a2 a3 a4 a5 a6 a7 a8 (ix2 g j) = ((col a0 a1 a2 a3 a4 a5 a6 a7 a8) j).db g := by
  unfold G10 k0_pay2 k0_pay9; pointwise
  rw [s_eq a0 a1 a2 a3 a4 a5 a6 a7 a8]; rfl

theorem loss_eq (y : S1x1.Idx) : G11 a0 a1 a2 a3 a4 a5 a6 a7 a8 y = Ideal.div (∑ j, ((col a0 a1 a2 a3 a4 a5 a6 a7 a8) j).sq) n_elem := by
  unfold G11 k0_pay6; pointwise
  simp only [err_eq a0 a1 a2 a3 a4 a5 a6 a7 a8]
  rw [Finset.sum_comm]; rfl

end Cert.Gradients

end
-- ==== Proof.PGlue.lean ====
/- From the blocks of the second part to its arrays. Grid point `t` takes columns `512 t` to `512 t + 511` of every array; the
activations and their scales are the same block at every point. A column of a block is that column of the arrays, so the
two gradients hold, at every index, what `Chn` writes there, and the squared errors gathered over the grid points make the
loss. -/
module

public import proofs.«01_k».proof.Proof.Carry
public import proofs.«01_k».proof.Proof.Gradients
public import proofs.«01_k».proof.Proof.Gen.ProductsIdeal.Value
public import Idealize.ShloMosaic.Lib.Pipeline.ValueKit

@[expose] public section

noncomputable section

namespace Cert.PGlue

open Idealize.ShloMosaic Cert.ProductsIdeal Cert.ProductsIdeal.Gen Cert.ProductsIdeal.Value Cert.Chain Cert.Err Cert.Grads Cert.Carry
open Idealize.ShloMosaic.TcCoe

variable (m : (ℓ : Loc nD τ sig) → Buf (Elt Ideal) ℓ)

/-- Column `j` of the argument arrays. -/
def acol (c : Dev nD) (j : Fin 5632) : Chn :=
  Cert.Gradients.col (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) j

/-- Where block `t` lies. -/
theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, t.val] := (by decide +kernel : ∀ t : Fin grid0.N, _)
theorem idx6 : ∀ t : Fin cfg0.N, win0_6.index t = ![0, t.val] := (by decide +kernel : ∀ t : Fin grid0.N, _)
theorem idx7 : ∀ t : Fin cfg0.N, win0_7.index t = ![0, t.val] := (by decide +kernel : ∀ t : Fin grid0.N, _)
theorem idx8 : ∀ t : Fin cfg0.N, win0_8.index t = ![0, t.val] := (by decide +kernel : ∀ t : Fin grid0.N, _)
theorem idx9 : ∀ t : Fin cfg0.N, win0_9.index t = ![0, t.val] := (by decide +kernel : ∀ t : Fin grid0.N, _)
theorem idx10 : ∀ t : Fin cfg0.N, win0_10.index t = ![0, t.val] := (by decide +kernel : ∀ t : Fin grid0.N, _)

/-- Column `j` of block `t` in the arrays. -/
def at512 (t : Fin cfg0.N) (j : Fin 512) : Fin 5632 :=
  ⟨t.val * 512 + j.val, by have h : t.val < 11 := t.isLt; omega⟩

theorem iblk0 (c : Dev nD) (t : Fin cfg0.N) (r : Fin 256) (j : Fin 2048) :
    (iblk m c 0 t : S256x2048.Idx → EReal) (ix2 r j) = m ((c : Thread nD τ).loc main_arg0) (ix2 r j) := by
  show V m c main_arg0 (((cfg0.win 0).blk t).view.emb (ix2 r j)) = _
  rw [V_main_arg0]
  congr 1
  have e := idx0 t
  funext a; apply Fin.ext
  match a with
  | ⟨0, _⟩ => show win0_0.index t (0 : Fin 2) * 256 + 1 * r.val = r.val; rw [e]; simp
  | ⟨1, _⟩ => show win0_0.index t (1 : Fin 2) * 2048 + 1 * j.val = j.val; rw [e]; simp

theorem iblk1 (c : Dev nD) (t : Fin cfg0.N) (r : Fin 1) (j : Fin 256) :
    (iblk m c 1 t : S1x256.Idx → EReal) (ix2 r j) = m ((c : Thread nD τ).loc main_arg1) (ix2 r j) := by
  show V m c main_arg1 (((cfg0.win 1).blk t).view.emb (ix2 r j)) = _
  rw [V_main_arg1]
  congr 1
  have e := idx1 t
  funext a; apply Fin.ext
  match a with
  | ⟨0, _⟩ => show win0_1.index t (0 : Fin 2) * 1 + 1 * r.val = r.val; rw [e]; simp
  | ⟨1, _⟩ => show win0_1.index t (1 : Fin 2) * 256 + 1 * j.val = j.val; rw [e]; simp

theorem iblk2 (c : Dev nD) (t : Fin cfg0.N) (r : Fin 2048) (j : Fin 512) :
    (iblk m c 2 t : S2048x512.Idx → EReal) (ix2 r j) = m ((c : Thread nD τ).loc main_arg2) (ix2 r (at512 t j)) := by
  show V m c main_arg2 (((cfg0.win 2).blk t).view.emb (ix2 r j)) = _
  rw [V_main_arg2]
  congr 1
  have e := idx2 t
  funext a; apply Fin.ext
  match a with
  | ⟨0, _⟩ => show win0_2.index t (0 : Fin 2) * 2048 + 1 * r.val = r.val; rw [e]; simp
  | ⟨1, _⟩ => show win0_2.index t (1 : Fin 2) * 512 + 1 * j.val = t.val * 512 + j.val; rw [e]; simp

theorem iblk3 (c : Dev nD) (t : Fin cfg0.N) (r : Fin 2048) (j : Fin 512) :
    (iblk m c 3 t : S2048x512.Idx → EReal) (ix2 r j) = m ((c : Thread nD τ).loc main_arg3) (ix2 r (at512 t j)) := by
  show V m c main_arg3 (((cfg0.win 3).blk t).view.emb (ix2 r j)) = _
  rw [V_main_arg3]
  congr 1
  have e := idx3 t
  funext a; apply Fin.ext
  match a with
  | ⟨0, _⟩ => show win0_3.index t (0 : Fin 2) * 2048 + 1 * r.val = r.val; rw [e]; simp
  | ⟨1, _⟩ => show win0_3.index t (1 : Fin 2) * 512 + 1 * j.val = t.val * 512 + j.val; rw [e]; simp

theorem iblk4 (c : Dev nD) (t : Fin cfg0.N) (r : Fin 16) (j : Fin 512) :
    (iblk m c 4 t : S16x512.Idx → EReal) (ix2 r j) = m ((c : Thread nD τ).loc main_arg4) (ix2 r (at512 t j)) := by
  show V m c main_arg4 (((cfg0.win 4).blk t).view.emb (ix2 r j)) = _
  rw [V_main_arg4]
  congr 1
  have e := idx4 t
  funext a; apply Fin.ext
  match a with
  | ⟨0, _⟩ => show win0_4.index t (0 : Fin 2) * 16 + 1 * r.val = r.val; rw [e]; simp
  | ⟨1, _⟩ => show win0_4.index t (1 : Fin 2) * 512 + 1 * j.val = t.val * 512 + j.val; rw [e]; simp

theorem iblk5 (c : Dev nD) (t : Fin cfg0.N) (r : Fin 16) (j : Fin 512) :
    (iblk m c 5 t : S16x512.Idx → EReal) (ix2 r j) = m ((c : Thread nD τ).loc main_arg5) (ix2 r (at512 t j)) := by
  show V m c main_arg5 (((cfg0.win 5).blk t).view.emb (ix2 r j)) = _
  rw [V_main_arg5]
  congr 1
  have e := idx5 t
  funext a; apply Fin.ext
  match a with
  | ⟨0, _⟩ => show win0_5.index t (0 : Fin 2) * 16 + 1 * r.val = r.val; rw [e]; simp
  | ⟨1, _⟩ => show win0_5.index t (1 : Fin 2) * 512 + 1 * j.val = t.val * 512 + j.val; rw [e]; simp

theorem iblk6 (c : Dev nD) (t : Fin cfg0.N) (r : Fin 16) (j : Fin 512) :
    (iblk m c 6 t : S16x512.Idx → EReal) (ix2 r j) = m ((c : Thread nD τ).loc main_arg6) (ix2 r (at512 t j)) := by
  show V m c main_arg6 (((cfg0.win 6).blk t).view.emb (ix2 r j)) = _
  rw [V_main_arg6]
  congr 1
  have e := idx6 t
  funext a; apply Fin.ext
  match a with
  | ⟨0, _⟩ => show win0_6.index t (0 : Fin 2) * 16 + 1 * r.val = r.val; rw [e]; simp
  | ⟨1, _⟩ => show win0_6.index t (1 : Fin 2) * 512 + 1 * j.val = t.val * 512 + j.val; rw [e]; simp

theorem iblk7 (c : Dev nD) (t : Fin cfg0.N) (r : Fin 16) (j : Fin 512) :
    (iblk m c 7 t : S16x512.Idx → EReal) (ix2 r j) = m ((c : Thread nD τ).loc main_arg7) (ix2 r (at512 t j)) := by
  show V m c main_arg7 (((cfg0.win 7).blk t).view.emb (ix2 r j)) = _
  rw [V_main_arg7]
  congr 1
  have e := idx7 t
  funext a; apply Fin.ext
  match a with
  | ⟨0, _⟩ => show win0_7.index t (0 : Fin 2) * 16 + 1 * r.val = r.val; rw [e]; simp
  | ⟨1, _⟩ => show win0_7.index t (1 : Fin 2) * 512 + 1 * j.val = t.val * 512 + j.val; rw [e]; simp

theorem iblk8 (c : Dev nD) (t : Fin cfg0.N) (r : Fin 256) (j : Fin 512) :
    (iblk m c 8 t : S256x512.Idx → EReal) (ix2 r j) = m ((c : Thread nD τ).loc main_arg8) (ix2 r (at512 t j)) := by
  show V m c main_arg8 (((cfg0.win 8).blk t).view.emb (ix2 r j)) = _
  rw [V_main_arg8]
  congr 1
  have e := idx8 t
  funext a; apply Fin.ext
  match a with
  | ⟨0, _⟩ => show win0_8.index t (0 : Fin 2) * 256 + 1 * r.val = r.val; rw [e]; simp
  | ⟨1, _⟩ => show win0_8.index t (1 : Fin 2) * 512 + 1 * j.val = t.val * 512 + j.val; rw [e]; simp

/-- The columns of block `t`. -/
abbrev bcol (c : Dev nD) (t : Fin cfg0.N) : Fin 512 → Chn := col (iblk m c 0 t) (iblk m c 1 t) (iblk m c 2 t) (iblk m c 3 t) (iblk m c 4 t) (iblk m c 5 t) (iblk m c 6 t) (iblk m c 7 t) (iblk m c 8 t)

/-- A column of block `t` is a column of the arrays. -/
theorem col_eq (c : Dev nD) (t : Fin cfg0.N) (j : Fin 512) : bcol m c t j = acol m c (at512 t j) := by
  unfold bcol col acol Cert.Gradients.col
  congr 1 <;> funext r
  · funext k; exact iblk0 m c t r k
  · exact iblk1 m c t 0 r
  · exact iblk2 m c t r j
  · exact iblk3 m c t r j
  · exact iblk8 m c t r j
  · exact iblk4 m c t r j
  · exact iblk5 m c t r j
  · exact iblk6 m c t r j
  · exact iblk7 m c t r j

/-- What is held holds at every grid point. -/
theorem held_congr {c : Dev nD} {t : Fin cfg0.N} (t' : Fin cfg0.N) {xb xt xs} (h : Held (iblk m c 0 t) (iblk m c 1 t) xb xt xs) :
    Held (iblk m c 0 t') (iblk m c 1 t') xb xt xs where
  b r k := (h.b r k).trans ((iblk0 m c t r k).trans (iblk0 m c t' r k).symm)
  t k r := (h.t k r).trans ((iblk0 m c t r k).trans (iblk0 m c t' r k).symm)
  s r l := (h.s r l).trans ((iblk1 m c t 0 r).trans (iblk1 m c t' 0 r).symm)

/-- The squared errors of sublane `s` in lane `j` at grid point `n`. -/
def sqN (c : Dev nD) (s : Fin 8) (j : Fin 512) (n : ℕ) : EReal :=
  if h : n < 11 then sqs (acol m c ⟨n * 512 + j.val, by omega⟩) s else 0

theorem sqN_eq (c : Dev nD) (s : Fin 8) (j : Fin 512) (t : Fin cfg0.N) : sqs (bcol m c t j) s = sqN m c s j t.val := by
  rw [sqN, dif_pos (show t.val < 11 from t.isLt)]
  exact congrArg (fun C : Chn => sqs C s) (col_eq m c t j)

/-- What the grid points leave in scratch: the activations and scales of the first one, and the squared errors so far. -/
theorem carried (c : Dev nD) : ∀ (n : ℕ) (hn : n < cfg0.N),
    Held (iblk m c 0 ⟨n, hn⟩) (iblk m c 1 ⟨n, hn⟩) (outsAt0 m c n hn).2.2.2.1 (outsAt0 m c n hn).2.2.2.2.1 (outsAt0 m c n hn).2.2.2.2.2.1
    ∧ ∀ (s : Fin 8) (j : Fin 512), (outsAt0 m c n hn).2.2.2.2.2.2 (ix2 s j) = ∑ t ∈ Finset.range (n + 1), sqN m c s j t
  | 0, hn => by
    have e : outsAt0 m c 0 hn = _ := outsAt0_A m c ⟨0, hn⟩ (Nat.zero_mod _) (by show ¬0 % 11 = 10; decide)
    rw [e]
    dsimp only
    refine ⟨held_A .., fun s j => (acc_A ..).trans ?_⟩
    rw [Finset.sum_range_one]
    exact sqN_eq m c s j ⟨0, hn⟩
  | n + 1, hn => by
    have l : n + 1 < 11 := hn
    have ih := carried c n (Nat.lt_of_succ_lt hn)
    have hh := held_congr m ⟨n + 1, hn⟩ ih.1
    by_cases h1 : (n + 1) % 11 = 10
    · have e : outsAt0 m c (n + 1) hn = _ := outsAt0_C m c ⟨n + 1, hn⟩ (by show ¬(n + 1) % 11 = 0; omega) h1
      rw [e]
      dsimp only
      refine ⟨hh, fun s j => (acc_C (h := hh) ..).trans ?_⟩
      rw [Finset.sum_range_succ]
      exact congr (congrArg (· + ·) (ih.2 s j)) (sqN_eq m c s j ⟨n + 1, hn⟩)
    · have e : outsAt0 m c (n + 1) hn = _ := outsAt0_B m c ⟨n + 1, hn⟩ (by show ¬(n + 1) % 11 = 0; omega) h1
      rw [e]
      dsimp only
      refine ⟨hh, fun s j => (acc_B (h := hh) ..).trans ?_⟩
      rw [Finset.sum_range_succ]
      exact congr (congrArg (· + ·) (ih.2 s j)) (sqN_eq m c s j ⟨n + 1, hn⟩)

/-- What a later grid point finds held. -/
theorem held_at (c : Dev nD) (t : Fin cfg0.N) :
    Held (iblk m c 0 t) (iblk m c 1 t) (outsAt0 m c (t.val - 1) (Nat.lt_of_le_of_lt (Nat.sub_le _ _) t.isLt)).2.2.2.1
      (outsAt0 m c (t.val - 1) (Nat.lt_of_le_of_lt (Nat.sub_le _ _) t.isLt)).2.2.2.2.1
      (outsAt0 m c (t.val - 1) (Nat.lt_of_le_of_lt (Nat.sub_le _ _) t.isLt)).2.2.2.2.2.1 :=
  held_congr m t (carried m c (t.val - 1) (Nat.lt_of_le_of_lt (Nat.sub_le _ _) t.isLt)).1

theorem outs9 (c : Dev nD) (t : Fin cfg0.N) : (outsAt0 m c t.val t.isLt).1 = gG (bcol m c t) := by
  have l : t.val < 11 := t.isLt
  by_cases h0 : t.val % 11 = 0
  · rw [outsAt0_A m c t h0 (by omega)]; dsimp only; exact out_A_9 ..
  · by_cases h1 : t.val % 11 = 10
    · rw [outsAt0_C m c t h0 h1]; dsimp only; exact out_C_9 (h := held_at m c t) ..
    · rw [outsAt0_B m c t h0 h1]; dsimp only; exact out_B_9 (h := held_at m c t) ..

theorem emb9 (t : Fin cfg0.N) (y : S16x512.Idx) : ((cfg0.win 9).blk t).view.emb y = ix2 (y 0) (at512 t (y 1)) := by
  have e := idx9 t
  funext a; apply Fin.ext
  match a with
  | ⟨0, _⟩ => show win0_9.index t (0 : Fin 2) * 16 + 1 * (y 0).val = (y 0).val; rw [e]; simp
  | ⟨1, _⟩ => show win0_9.index t (1 : Fin 2) * 512 + 1 * (y 1).val = t.val * 512 + (y 1).val; rw [e]; simp

theorem outs10 (c : Dev nD) (t : Fin cfg0.N) : (outsAt0 m c t.val t.isLt).2.1 = gB (bcol m c t) := by
  have l : t.val < 11 := t.isLt
  by_cases h0 : t.val % 11 = 0
  · rw [outsAt0_A m c t h0 (by omega)]; dsimp only; exact out_A_10 ..
  · by_cases h1 : t.val % 11 = 10
    · rw [outsAt0_C m c t h0 h1]; dsimp only; exact out_C_10 (h := held_at m c t) ..
    · rw [outsAt0_B m c t h0 h1]; dsimp only; exact out_B_10 (h := held_at m c t) ..

theorem emb10 (t : Fin cfg0.N) (y : S16x512.Idx) : ((cfg0.win 10).blk t).view.emb y = ix2 (y 0) (at512 t (y 1)) := by
  have e := idx10 t
  funext a; apply Fin.ext
  match a with
  | ⟨0, _⟩ => show win0_10.index t (0 : Fin 2) * 16 + 1 * (y 0).val = (y 0).val; rw [e]; simp
  | ⟨1, _⟩ => show win0_10.index t (1 : Fin 2) * 512 + 1 * (y 1).val = t.val * 512 + (y 1).val; rw [e]; simp

/-- The gammas' gradients after the run. -/
theorem final9 (c : Dev nD) : (dats m 0 c).arrAt 9 cfg0.N = fun i : S16x5632.Idx => (acol m c (i 1)).dg (i 0) := by
  refine (dats m 0 c).arrAt_eq_of_covers 9 _ (by decide +kernel) fun t hf y => ?_
  have h := congrFun (flushed9 m c t) y
  rw [outs9] at h
  refine Eq.trans (b := gG (bcol m c t) y) h ?_
  rw [emb9]
  exact congrArg (fun C : Chn => C.dg (y 0)) (col_eq m c t (y 1))

/-- The betas' gradients after the run. -/
theorem final10 (c : Dev nD) : (dats m 0 c).arrAt 10 cfg0.N = fun i : S16x5632.Idx => (acol m c (i 1)).db (i 0) := by
  refine (dats m 0 c).arrAt_eq_of_covers 10 _ (by decide +kernel) fun t hf y => ?_
  have h := congrFun (flushed10 m c t) y
  rw [outs10] at h
  refine Eq.trans (b := gB (bcol m c t) y) h ?_
  rw [emb10]
  exact congrArg (fun C : Chn => C.db (y 0)) (col_eq m c t (y 1))

theorem flush11 : ∀ t : Fin cfg0.N, (cfg0.win 11).flush t = true → t.val = 10 := (by decide +kernel : ∀ t : Fin grid0.N, _)

/-- The squared errors of all grid points, sublanes and lanes are those of all columns. -/
theorem sum_sq (c : Dev nD) : (∑ s : Fin 8, ∑ j : Fin 512, ∑ t ∈ Finset.range 11, sqN m c s j t) = ∑ j, (acol m c j).sq := by
  have e (s : Fin 8) (j : Fin 512) : (∑ t ∈ Finset.range 11, sqN m c s j t)
      = ∑ t : Fin 11, sqs (acol m c ⟨t.val * 512 + j.val, by omega⟩) s := by
    rw [Finset.sum_range]
    exact Finset.sum_congr rfl fun t _ => dif_pos t.isLt
  simp only [e]
  rw [Finset.sum_comm]
  have e2 (j : Fin 512) : (∑ s : Fin 8, ∑ t : Fin 11, sqs (acol m c ⟨t.val * 512 + j.val, by omega⟩) s)
      = ∑ t : Fin 11, (acol m c ⟨t.val * 512 + j.val, by omega⟩).sq := by
    rw [Finset.sum_comm]
    exact Finset.sum_congr rfl fun t _ => sum_sqs _
  simp only [e2]
  rw [Finset.sum_comm, ← Fintype.sum_prod_type']
  exact Fintype.sum_equiv (finProdFinEquiv (m := 11) (n := 512)) _ _ fun p => congrArg (fun j => (acol m c j).sq) (Fin.ext (by
    show p.1.val * 512 + p.2.val = p.2.val + 512 * p.1.val; omega))

theorem outs11 (c : Dev nD) (t : Fin cfg0.N) (ht : t.val = 10) (y : S1x1.Idx) :
    (outsAt0 m c t.val t.isLt).2.2.1 y = Ideal.div (∑ j, (acol m c j).sq) n_elem := by
  rw [outsAt0_C m c t (by omega) (by omega), ← sum_sq]
  dsimp only
  refine (loss_C (h := held_at m c t) ..).trans ?_
  refine congrArg (Ideal.div · n_elem) (Finset.sum_congr rfl fun s _ => Finset.sum_congr rfl fun j _ => ?_)
  rw [(carried m c (t.val - 1) _).2 s j, show t.val - 1 + 1 = t.val by omega, Finset.sum_range_succ (n := 10), ht]
  exact congrArg (_ + ·) ((sqN_eq m c s j t).trans (congrArg _ ht))

/-- The loss after the run. -/
theorem final11 (c : Dev nD) : (dats m 0 c).arrAt 11 cfg0.N = fun _ : S1x1.Idx => Ideal.div (∑ j, (acol m c j).sq) n_elem := by
  refine (dats m 0 c).arrAt_eq_of_covers 11 _ (by decide +kernel) fun t hf y => ?_
  exact (congrFun (flushed11 m c t) y).trans (outs11 m c t (flush11 t hf) _)

end Cert.PGlue

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Glue
public import proofs.«01_k».proof.Proof.Pre
public import proofs.«01_k».proof.Proof.Gen.Products
public import proofs.«01_k».proof.Proof.Gen.Products.Frame
public import proofs.«01_k».proof.Proof.Gen.ProductsIdeal
public import proofs.«01_k».proof.Proof.Gen.ProductsIdeal.Frame
public import proofs.«01_k».proof.Proof.Gen.GradientsIdeal
public import proofs.«01_k».proof.Proof.Gen.GradientsIdeal.Frame
public import proofs.«01_k».proof.Proof.PGlue

@[expose] public section

noncomputable section

namespace Cert.Proof

open Idealize.ShloMosaic Idealize.SL.Sem

section

open Cert.ReferenceIdeal Cert.ReferenceIdeal.Gen Cert.Ref

variable (a0 : Vec Ideal S2048x5632 .f32) (a1 a2 : Vec Ideal S16x5632 .f32)

/-- The reference's results, as functions of the index. -/
theorem ref_q : k0_pay5 a0 a1 a2 = fun i : S2048x5632.Idx => (col a0 a1 a2 (i 1)).q (i 0) :=
  funext fun i => (congrArg _ (eq_ix2 i)).trans (pay5_eq a0 a1 a2 (i 0) (i 1))

theorem ref_h : k0_pay3 a0 a1 a2 = fun i : S16x5632.Idx => (col a0 a1 a2 (i 1)).h (i 0) :=
  funext fun i => (congrArg _ (eq_ix2 i)).trans (pay3_eq a0 a1 a2 (i 0) (i 1))

theorem ref_z : k0_pay4 a0 a1 a2 = fun i : S16x5632.Idx => (col a0 a1 a2 (i 1)).z (i 0) :=
  funext fun i => (congrArg _ (eq_ix2 i)).trans (pay4_eq a0 a1 a2 (i 0) (i 1))

end

section

open Cert.Glue

/-- The first part's three results are the reference's: both are `Col`'s quantised weights, steps and offsets. -/
theorem algebraic :
    algebraic_KernelIdeal_ReferenceIdeal_pre_nonzero_step (hKernelIdeal := Cert.KernelIdeal.Gen.facts)
      (hReferenceIdeal := Cert.ReferenceIdeal.Gen.facts) (hPre_nonzero_step := Cert.Pre.facts) := by
  intro m g m' g' hpre hargs
  have hh : ∀ c g j, (acol m c j).h g ≠ 0 := fun c g j => Cert.Pre.nonzero _ _ _ (hpre c) g j
  refine ⟨fun c i => (acol m c (i 1)).q (i 0), fun c i => (acol m c (i 1)).h (i 0), fun c i => (acol m c (i 1)).z (i 0), ?_, ?_⟩
  · refine (θ_run _ _ _).mono (fun r h c => ?_) (Cert.KernelIdeal.Value.run_blocks (F := Ideal) m g)
    obtain ⟨h3, h4, h5, k0, k1, k2⟩ := h c
    exact ⟨h3.trans (final3 m c (hh c)), h4.trans (final4 m c), h5.trans (final5 m c), k0, k1, k2⟩
  · refine (θ_run _ _ _).mono (fun r h c => ?_) (Cert.ReferenceIdeal.Value.run (F := Ideal) m' g')
    obtain ⟨h3, h4, h5, k0, k1, k2⟩ := h c
    obtain ⟨e0, e1, e2⟩ := hargs c
    rw [e0, e1, e2] at h3 h4 h5
    exact ⟨h3.trans (ref_q _ _ _), h4.trans (ref_h _ _ _), h5.trans (ref_z _ _ _), k0, k1, k2⟩

end

section

open Cert.GradientsIdeal Cert.GradientsIdeal.Value Cert.Gradients

variable (a0 : Vec Ideal S256x2048 .fp8e4m3) (a1 : Vec Ideal S1x256 .f32) (a2 : Vec Ideal S2048x5632 .bf16)
  (a3 : Vec Ideal S2048x5632 .f32) (a4 a5 a6 a7 : Vec Ideal S16x5632 .f32) (a8 : Vec Ideal S256x5632 .bf16)

/-- The second reference's results, as functions of the index. -/
theorem ref_dg : G9 a0 a1 a2 a3 a4 a5 a6 a7 a8 = fun i : S16x5632.Idx => (col a0 a1 a2 a3 a4 a5 a6 a7 a8 (i 1)).dg (i 0) :=
  funext fun i => (congrArg _ (eq_ix2 i)).trans (dg_eq a0 a1 a2 a3 a4 a5 a6 a7 a8 (i 0) (i 1))

theorem ref_db : G10 a0 a1 a2 a3 a4 a5 a6 a7 a8 = fun i : S16x5632.Idx => (col a0 a1 a2 a3 a4 a5 a6 a7 a8 (i 1)).db (i 0) :=
  funext fun i => (congrArg _ (eq_ix2 i)).trans (db_eq a0 a1 a2 a3 a4 a5 a6 a7 a8 (i 0) (i 1))

theorem ref_loss : G11 a0 a1 a2 a3 a4 a5 a6 a7 a8
    = fun _ : S1x1.Idx => Ideal.div (∑ j, (col a0 a1 a2 a3 a4 a5 a6 a7 a8 j).sq) Cert.Chain.n_elem :=
  funext fun y => loss_eq a0 a1 a2 a3 a4 a5 a6 a7 a8 y

end

section

open Cert.PGlue

/-- The second part's three results are the reference's: both are `Chn`'s two gradients and the mean of its squared errors. -/
theorem algebraic2 :
    algebraic_ProductsIdeal_GradientsIdeal (hProductsIdeal := Cert.ProductsIdeal.Gen.facts)
      (hGradientsIdeal := Cert.GradientsIdeal.Gen.facts) := by
  intro m g m' g' _ hargs
  refine ⟨fun c i => (acol m c (i 1)).dg (i 0), fun c i => (acol m c (i 1)).db (i 0),
    fun c _ => Ideal.div (∑ j, (acol m c j).sq) Cert.Chain.n_elem, ?_, ?_⟩
  · refine (θ_run _ _ _).mono (fun r h c => ?_) (Cert.ProductsIdeal.Value.run_blocks (F := Ideal) m g)
    obtain ⟨h9, h10, h11, k⟩ := h c
    exact ⟨h9.trans (final9 m c), h10.trans (final10 m c), h11.trans (final11 m c), k⟩
  · refine (θ_run _ _ _).mono (fun r h c => ?_) (Cert.GradientsIdeal.Value.run (F := Ideal) m' g')
    obtain ⟨h9, h10, h11, k⟩ := h c
    obtain ⟨e0, e1, e2, e3, e4, e5, e6, e7, e8⟩ := hargs c
    rw [e0, e1, e2, e3, e4, e5, e6, e7, e8] at h9 h10 h11
    exact ⟨h9.trans (ref_dg ..), h10.trans (ref_db ..), h11.trans (ref_loss ..), k⟩

end

theorem claim : Cert.Claim :=
  ⟨Cert.Kernel.Gen.facts, Cert.KernelIdeal.Gen.facts, Cert.ReferenceIdeal.Gen.facts, Cert.Products.Gen.facts,
    Cert.ProductsIdeal.Gen.facts, Cert.GradientsIdeal.Gen.facts, Cert.Pre.facts,
    fun m g _ => Cert.Kernel.Gen.frame m g, fun m g _ => Cert.KernelIdeal.Gen.frame m g,
    fun m g _ => Cert.KernelIdeal.Gen.frame m g, fun m g _ => Cert.ReferenceIdeal.Gen.frame m g,
    fun m g _ => Cert.ReferenceIdeal.Gen.frame m g, fun m g _ => Cert.Products.Gen.frame m g,
    fun m g _ => Cert.ProductsIdeal.Gen.frame m g, fun m g _ => Cert.GradientsIdeal.Gen.frame m g,
    trivial, algebraic, trivial, algebraic2⟩

end Cert.Proof

end
